-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_in_vocabulary [hPre_finite_and_in_vocabulary : Cert.Pre_finite_and_in_vocabulary.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_in_vocabulary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_and_in_vocabulary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite_and_in_vocabulary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_in_vocabulary [hPre_finite_and_in_vocabulary : Cert.Pre_finite_and_in_vocabulary.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_in_vocabulary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_and_in_vocabulary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite_and_in_vocabulary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_and_in_vocabulary [hKernelIdeal : Cert.KernelIdeal.Facts] [hPre_finite_and_in_vocabulary : Cert.Pre_finite_and_in_vocabulary.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_in_vocabulary m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_and_in_vocabulary [hReferenceIdeal : Cert.ReferenceIdeal.Facts] [hPre_finite_and_in_vocabulary : Cert.Pre_finite_and_in_vocabulary.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_in_vocabulary m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "fifth" .f32 0x3E4CCCCD#32 ((1 / 5 : ℝ) : EReal)

def algebraic_KernelIdeal_ReferenceIdeal_pre_finite_and_in_vocabulary [hKernelIdeal : Cert.KernelIdeal.Facts] [hReferenceIdeal : Cert.ReferenceIdeal.Facts] [hPre_finite_and_in_vocabulary : Cert.Pre_finite_and_in_vocabulary.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_in_vocabulary m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_and_in_vocabulary : Cert.Pre_finite_and_in_vocabulary.Facts),
    quiescent_Kernel (hKernel := hKernel)
    ∧ quiescent_KernelIdeal (hKernelIdeal := hKernelIdeal)
    ∧ quiescent_KernelIdeal_pre_finite_and_in_vocabulary (hKernelIdeal := hKernelIdeal) (hPre_finite_and_in_vocabulary := hPre_finite_and_in_vocabulary)
    ∧ quiescent_ReferenceIdeal (hReferenceIdeal := hReferenceIdeal)
    ∧ quiescent_ReferenceIdeal_pre_finite_and_in_vocabulary (hReferenceIdeal := hReferenceIdeal) (hPre_finite_and_in_vocabulary := hPre_finite_and_in_vocabulary)
    ∧ preserves_Kernel_KernelIdeal
    ∧ algebraic_KernelIdeal_ReferenceIdeal_pre_finite_and_in_vocabulary (hKernelIdeal := hKernelIdeal) (hReferenceIdeal := hReferenceIdeal) (hPre_finite_and_in_vocabulary := hPre_finite_and_in_vocabulary)
-- ==== Pre_finite_and_in_vocabulary.lean ====
abbrev S32x8x2048 : Shape := ⟨3, ![32, 8, 2048]⟩
abbrev S16x10000x128 : Shape := ⟨3, ![16, 10000, 128]⟩
abbrev S16x10000 : Shape := ⟨2, ![16, 10000]⟩
abbrev S_ : Shape := ⟨0, ![]⟩

class Facts : Prop where
  bcast_S_S32x8x2048 : S_.BroadcastsInDim S32x8x2048 (![] : Fin 0 → Fin S32x8x2048.rank)
  bcast_S_S16x10000x128 : S_.BroadcastsInDim S16x10000x128 (![] : Fin 0 → Fin S16x10000x128.rank)
  bcast_S_S16x10000 : S_.BroadcastsInDim S16x10000 (![] : Fin 0 → Fin S16x10000.rank)

variable [Facts]

def fn {F : FTy → Type} [FloatOps F] (main_arg0 : FVec F S32x8x2048 .f32) (main_arg1 : FVec F S16x10000x128 .f32) (main_arg2 : IVec S16x10000 32) : IVec S32x8x2048 1 × IVec S16x10000x128 1 × IVec S16x10000 1 :=
  let main_v0 : FVec F S32x8x2048 .f32 := Host.absf main_arg0
  let main_cst : FVec F S_ .f32 := constant S_ .f32 0x7F800000#32
  let main_v1 : FVec F S32x8x2048 .f32 := broadcastInDim S32x8x2048 ![] bcast_S_S32x8x2048 main_cst
  let main_v2 : IVec S32x8x2048 1 := cmpf .olt main_v0 main_v1
  let main_v3 : FVec F S16x10000x128 .f32 := Host.absf main_arg1
  let main_cst_0 : FVec F S_ .f32 := constant S_ .f32 0x7F800000#32
  let main_v4 : FVec F S16x10000x128 .f32 := broadcastInDim S16x10000x128 ![] bcast_S_S16x10000x128 main_cst_0
  let main_v5 : IVec S16x10000x128 1 := cmpf .olt main_v3 main_v4
  let main_c : IVec S_ 32 := constantI S_ 32 0#32
  let main_v6 : IVec S16x10000 32 := broadcastInDim S16x10000 ![] bcast_S_S16x10000 main_c
  let main_v7 : IVec S16x10000 1 := cmpi .sge main_arg2 main_v6
  let main_c_1 : IVec S_ 32 := constantI S_ 32 32#32
  let main_v8 : IVec S16x10000 32 := broadcastInDim S16x10000 ![] bcast_S_S16x10000 main_c_1
  let main_v9 : IVec S16x10000 1 := cmpi .slt main_arg2 main_v8
  let main_v10 : IVec S16x10000 1 := andi main_v7 main_v9
  (main_v2, main_v5, main_v10)
-- ==== Kernel.lean ====
abbrev S32x8x2048 : Shape := ⟨3, ![32, 8, 2048]⟩
abbrev S16x10000x128 : Shape := ⟨3, ![16, 10000, 128]⟩
abbrev S16x10000 : Shape := ⟨2, ![16, 10000]⟩
abbrev S256x16x128 : Shape := ⟨3, ![256, 16, 128]⟩
abbrev S256x2048 : Shape := ⟨2, ![256, 2048]⟩
abbrev S_ : Shape := ⟨0, ![]⟩
abbrev S256x16 : Shape := ⟨2, ![256, 16]⟩
abbrev S16x256 : Shape := ⟨2, ![16, 256]⟩
abbrev S16x256x1 : Shape := ⟨3, ![16, 256, 1]⟩
abbrev S16x1x10000 : Shape := ⟨3, ![16, 1, 10000]⟩
abbrev S16x2x1x128 : Shape := ⟨4, ![16, 2, 1, 128]⟩
abbrev S128x128 : Shape := ⟨2, ![128, 128]⟩
abbrev S1x10000x128 : Shape := ⟨3, ![1, 10000, 128]⟩
abbrev S1x1x10000 : Shape := ⟨3, ![1, 1, 10000]⟩
abbrev S1x128x1 : Shape := ⟨3, ![1, 128, 1]⟩
abbrev S1x1x1x128 : Shape := ⟨4, ![1, 1, 1, 128]⟩
abbrev S10000x128 : Shape := ⟨2, ![10000, 128]⟩
abbrev S1x10000 : Shape := ⟨2, ![1, 10000]⟩
abbrev S128x1 : Shape := ⟨2, ![128, 1]⟩
abbrev S128x10000 : Shape := ⟨2, ![128, 10000]⟩
abbrev S128x16 : Shape := ⟨2, ![128, 16]⟩
abbrev S128x112 : Shape := ⟨2, ![128, 112]⟩
abbrev S128x384 : Shape := ⟨2, ![128, 384]⟩
abbrev S1x384 : Shape := ⟨2, ![1, 384]⟩
abbrev S128 : Shape := ⟨1, ![128]⟩
abbrev S1x33 : Shape := ⟨2, ![1, 33]⟩
abbrev S128x33 : Shape := ⟨2, ![128, 33]⟩
abbrev S1 : Shape := ⟨1, ![1]⟩
abbrev S1x1x1 : Shape := ⟨3, ![1, 1, 1]⟩
abbrev S32x1 : Shape := ⟨2, ![32, 1]⟩
abbrev S32x10000 : Shape := ⟨2, ![32, 10000]⟩
abbrev S128x32 : Shape := ⟨2, ![128, 32]⟩
abbrev S32x8x16 : Shape := ⟨3, ![32, 8, 16]⟩

abbrev nBuf : Space → Nat
  | .hbm => 26
  | .vmem => 14
  | .smem => 0
  | _ => 0

abbrev bufTy : (tb : Table) → Fin (tcTables nBuf tb) → BufTy
  | .hbm, ⟨0, _⟩ => ⟨S32x8x2048, .f32⟩
  | .hbm, ⟨1, _⟩ => ⟨S16x10000x128, .f32⟩
  | .hbm, ⟨2, _⟩ => ⟨S16x10000, .i32⟩
  | .hbm, ⟨3, _⟩ => ⟨S256x16x128, .f32⟩
  | .hbm, ⟨4, _⟩ => ⟨S256x2048, .f32⟩
  | .hbm, ⟨5, _⟩ => ⟨S_, .f32⟩
  | .hbm, ⟨6, _⟩ => ⟨S256x2048, .f32⟩
  | .hbm, ⟨7, _⟩ => ⟨S256x2048, .f32⟩
  | .hbm, ⟨8, _⟩ => ⟨S256x16x128, .f32⟩
  | .hbm, ⟨9, _⟩ => ⟨S_, .f32⟩
  | .hbm, ⟨10, _⟩ => ⟨S256x16, .f32⟩
  | .hbm, ⟨11, _⟩ => ⟨S16x256, .f32⟩
  | .hbm, ⟨12, _⟩ => ⟨S16x256x1, .f32⟩
  | .hbm, ⟨13, _⟩ => ⟨S16x10000x128, .f32⟩
  | .hbm, ⟨14, _⟩ => ⟨S_, .f32⟩
  | .hbm, ⟨15, _⟩ => ⟨S16x10000, .f32⟩
  | .hbm, ⟨16, _⟩ => ⟨S16x1x10000, .i32⟩
  | .hbm, ⟨17, _⟩ => ⟨S16x1x10000, .f32⟩
  | .hbm, ⟨18, _⟩ => ⟨S16x2x1x128, .f32⟩
  | .hbm, ⟨19, _⟩ => ⟨S16x2x1x128, .f32⟩
  | .hbm, ⟨20, _⟩ => ⟨S16x256, .f32⟩
  | .hbm, ⟨21, _⟩ => ⟨S256x16, .f32⟩
  | .hbm, ⟨22, _⟩ => ⟨S32x8x16, .f32⟩
  | .hbm, ⟨23, _⟩ => ⟨S16x256, .f32⟩
  | .hbm, ⟨24, _⟩ => ⟨S256x16, .f32⟩
  | .hbm, ⟨25, _⟩ => ⟨S32x8x16, .f32⟩
  | .local _ .vmem, ⟨0, _⟩ => ⟨S128x128, .f32⟩
  | .local _ .vmem, ⟨1, _⟩ => ⟨S128x128, .f32⟩
  | .local _ .vmem, ⟨2, _⟩ => ⟨S1x10000x128, .f32⟩
  | .local _ .vmem, ⟨3, _⟩ => ⟨S1x10000x128, .f32⟩
  | .local _ .vmem, ⟨4, _⟩ => ⟨S1x1x10000, .i32⟩
  | .local _ .vmem, ⟨5, _⟩ => ⟨S1x1x10000, .i32⟩
  | .local _ .vmem, ⟨6, _⟩ => ⟨S1x128x1, .f32⟩
  | .local _ .vmem, ⟨7, _⟩ => ⟨S1x128x1, .f32⟩
  | .local _ .vmem, ⟨8, _⟩ => ⟨S1x1x10000, .f32⟩
  | .local _ .vmem, ⟨9, _⟩ => ⟨S1x1x10000, .f32⟩
  | .local _ .vmem, ⟨10, _⟩ => ⟨S1x1x1x128, .f32⟩
  | .local _ .vmem, ⟨11, _⟩ => ⟨S1x1x1x128, .f32⟩
  | .local _ .vmem, ⟨12, _⟩ => ⟨S1x1x1x128, .f32⟩
  | .local _ .vmem, ⟨13, _⟩ => ⟨S1x1x1x128, .f32⟩
  | _, _ => ⟨S32x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12_0 : Ref sig .tc := ⟨.hbm, 18, rfl⟩
abbrev main_v12_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x10000 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x10000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "fifth" => some ((1 / 5 : ℝ) : EReal)
  | _ => none
-- ==== ReferenceIdeal.lean ====
abbrev S32x8x2048 : Shape := ⟨3, ![32, 8, 2048]⟩
abbrev S16x10000x128 : Shape := ⟨3, ![16, 10000, 128]⟩
abbrev S16x10000 : Shape := ⟨2, ![16, 10000]⟩
abbrev S256x16x128 : Shape := ⟨3, ![256, 16, 128]⟩
abbrev S16x256x128 : Shape := ⟨3, ![16, 256, 128]⟩
abbrev S_ : Shape := ⟨0, ![]⟩
abbrev S16x256 : Shape := ⟨2, ![16, 256]⟩
abbrev S16x256x1 : Shape := ⟨3, ![16, 256, 1]⟩
abbrev S16x256x10000 : Shape := ⟨3, ![16, 256, 10000]⟩
abbrev S16x1x10000 : Shape := ⟨3, ![16, 1, 10000]⟩
abbrev S16x256x5 : Shape := ⟨3, ![16, 256, 5]⟩
abbrev S16x256x5x1 : Shape := ⟨4, ![16, 256, 5, 1]⟩
abbrev S1 : Shape := ⟨1, ![1]⟩
abbrev S1x1x1x1 : Shape := ⟨4, ![1, 1, 1, 1]⟩
abbrev S1x1x1x32 : Shape := ⟨4, ![1, 1, 1, 32]⟩
abbrev S16x256x5x32 : Shape := ⟨4, ![16, 256, 5, 32]⟩
abbrev S16x256x32 : Shape := ⟨3, ![16, 256, 32]⟩
abbrev S256x16 : Shape := ⟨2, ![256, 16]⟩
abbrev S32x8x16 : Shape := ⟨3, ![32, 8, 16]⟩

abbrev nBuf : Space → Nat
  | .hbm => 75
  | .vmem => 0
  | .smem => 0
  | _ => 0

abbrev bufTy : (tb : Table) → Fin (tcTables nBuf tb) → BufTy
  | .hbm, ⟨0, _⟩ => ⟨S32x8x2048, .f32⟩
  | .hbm, ⟨1, _⟩ => ⟨S16x10000x128, .f32⟩
  | .hbm, ⟨2, _⟩ => ⟨S16x10000, .i32⟩
  | .hbm, ⟨3, _⟩ => ⟨S256x16x128, .f32⟩
  | .hbm, ⟨4, _⟩ => ⟨S16x256x128, .f32⟩
  | .hbm, ⟨5, _⟩ => ⟨S16x256x128, .f32⟩
  | .hbm, ⟨6, _⟩ => ⟨S_, .f32⟩
  | .hbm, ⟨7, _⟩ => ⟨S16x256, .f32⟩
  | .hbm, ⟨8, _⟩ => ⟨S16x256x1, .f32⟩
  | .hbm, ⟨9, _⟩ => ⟨S16x10000x128, .f32⟩
  | .hbm, ⟨10, _⟩ => ⟨S_, .f32⟩
  | .hbm, ⟨11, _⟩ => ⟨S16x10000, .f32⟩
  | .hbm, ⟨12, _⟩ => ⟨S16x256x10000, .f32⟩
  | .hbm, ⟨13, _⟩ => ⟨S16x1x10000, .f32⟩
  | .hbm, ⟨14, _⟩ => ⟨S16x256x10000, .f32⟩
  | .hbm, ⟨15, _⟩ => ⟨S16x256x10000, .f32⟩
  | .hbm, ⟨16, _⟩ => ⟨S16x256x10000, .f32⟩
  | .hbm, ⟨17, _⟩ => ⟨S_, .f32⟩
  | .hbm, ⟨18, _⟩ => ⟨S16x256x10000, .f32⟩
  | .hbm, ⟨19, _⟩ => ⟨S16x256x10000, .f32⟩
  | .hbm, ⟨20, _⟩ => ⟨S16x256x10000, .f32⟩
  | .hbm, ⟨21, _⟩ => ⟨S_, .f32⟩
  | .hbm, ⟨22, _⟩ => ⟨S16x256x10000, .f32⟩
  | .hbm, ⟨23, _⟩ => ⟨S16x256x10000, .f32⟩
  | .hbm, ⟨24, _⟩ => ⟨S16x256x10000, .f32⟩
  | .hbm, ⟨25, _⟩ => ⟨S16x256x10000, .f32⟩
  | .hbm, ⟨26, _⟩ => ⟨S16x256x5, .f32⟩
  | .hbm, ⟨27, _⟩ => ⟨S16x256x5, .i32⟩
  | .hbm, ⟨28, _⟩ => ⟨S16x1x10000, .i32⟩
  | .hbm, ⟨29, _⟩ => ⟨S16x256x10000, .i32⟩
  | .hbm, ⟨30, _⟩ => ⟨S_, .i32⟩
  | .hbm, ⟨31, _⟩ => ⟨S16x256x5, .i32⟩
  | .hbm, ⟨32, _⟩ => ⟨S16x256x5, .i1⟩
  | .hbm, ⟨33, _⟩ => ⟨S_, .i32⟩
  | .hbm, ⟨34, _⟩ => ⟨S16x256x5, .i32⟩
  | .hbm, ⟨35, _⟩ => ⟨S16x256x5, .i32⟩
  | .hbm, ⟨36, _⟩ => ⟨S16x256x5, .i32⟩
  | .hbm, ⟨37, _⟩ => ⟨S16x256x5x1, .i32⟩
  | .hbm, ⟨38, _⟩ => ⟨S1, .i32⟩
  | .hbm, ⟨39, _⟩ => ⟨S_, .i32⟩
  | .hbm, ⟨40, _⟩ => ⟨S16x256x5x1, .i32⟩
  | .hbm, ⟨41, _⟩ => ⟨S16x256x5x1, .i1⟩
  | .hbm, ⟨42, _⟩ => ⟨S1x1x1x1, .i32⟩
  | .hbm, ⟨43, _⟩ => ⟨S16x256x5x1, .i32⟩
  | .hbm, ⟨44, _⟩ => ⟨S16x256x5x1, .i1⟩
  | .hbm, ⟨45, _⟩ => ⟨S16x256x5x1, .i1⟩
  | .hbm, ⟨46, _⟩ => ⟨S_, .i1⟩
  | .hbm, ⟨47, _⟩ => ⟨S16x256x5, .i1⟩
  | .hbm, ⟨48, _⟩ => ⟨S16x256x5, .i32⟩
  | .hbm, ⟨49, _⟩ => ⟨S_, .i32⟩
  | .hbm, ⟨50, _⟩ => ⟨S16x256x5, .i32⟩
  | .hbm, ⟨51, _⟩ => ⟨S16x256x5, .i32⟩
  | .hbm, ⟨52, _⟩ => ⟨S16x256x5x1, .i32⟩
  | .hbm, ⟨53, _⟩ => ⟨S1x1x1x32, .i32⟩
  | .hbm, ⟨54, _⟩ => ⟨S16x256x5x32, .i32⟩
  | .hbm, ⟨55, _⟩ => ⟨S16x256x5x32, .i32⟩
  | .hbm, ⟨56, _⟩ => ⟨S16x256x5x32, .i1⟩
  | .hbm, ⟨57, _⟩ => ⟨S16x256x5x32, .f32⟩
  | .hbm, ⟨58, _⟩ => ⟨S_, .f32⟩
  | .hbm, ⟨59, _⟩ => ⟨S16x256x32, .f32⟩
  | .hbm, ⟨60, _⟩ => ⟨S16x256x32, .i32⟩
  | .hbm, ⟨61, _⟩ => ⟨S_, .f32⟩
  | .hbm, ⟨62, _⟩ => ⟨S_, .i32⟩
  | .hbm, ⟨63, _⟩ => ⟨S16x256, .f32⟩
  | .hbm, ⟨64, _⟩ => ⟨S16x256, .i32⟩
  | .hbm, ⟨65, _⟩ => ⟨S_, .f32⟩
  | .hbm, ⟨66, _⟩ => ⟨S16x256, .f32⟩
  | .hbm, ⟨67, _⟩ => ⟨S_, .f32⟩
  | .hbm, ⟨68, _⟩ => ⟨S16x256, .f32⟩
  | .hbm, ⟨69, _⟩ => ⟨S16x256, .f32⟩
  | .hbm, ⟨70, _⟩ => ⟨S16x256, .f32⟩
  | .hbm, ⟨71, _⟩ => ⟨S256x16, .f32⟩
  | .hbm, ⟨72, _⟩ => ⟨S32x8x16, .f32⟩
  | .hbm, ⟨73, _⟩ => ⟨S256x16, .f32⟩
  | .hbm, ⟨74, _⟩ => ⟨S32x8x16, .f32⟩
  | _, _ => ⟨S32x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_values : Ref sig .tc := ⟨.hbm, 26, rfl⟩
abbrev main_indices : Ref sig .tc := ⟨.hbm, 27, rfl⟩
abbrev main_v19 : Ref sig .tc := ⟨.hbm, 28, rfl⟩
abbrev main_v20 : Ref sig .tc := ⟨.hbm, 29, rfl⟩
abbrev main_call0_c : Ref sig .tc := ⟨.hbm, 30, rfl⟩
abbrev main_call0_v0 : Ref sig .tc := ⟨.hbm, 31, rfl⟩
abbrev main_call0_v1 : Ref sig .tc := ⟨.hbm, 32, rfl⟩
abbrev main_call0_c_0 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_c_1 : Ref sig .tc := ⟨.hbm, 38, rfl⟩
abbrev main_call0_c_2 : Ref sig .tc := ⟨.hbm, 39, rfl⟩
abbrev main_call0_v6 : Ref sig .tc := ⟨.hbm, 40, rfl⟩
abbrev main_call0_v7 : Ref sig .tc := ⟨.hbm, 41, rfl⟩
abbrev main_call0_v8 : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_c_3 : Ref sig .tc := ⟨.hbm, 46, rfl⟩
abbrev main_call0_v12 : Ref sig .tc := ⟨.hbm, 47, rfl⟩
abbrev main_call0_v13 : Ref sig .tc := ⟨.hbm, 48, rfl⟩
abbrev main_call0_c_4 : Ref sig .tc := ⟨.hbm, 49, rfl⟩
abbrev main_call0_v14 : Ref sig .tc := ⟨.hbm, 50, rfl⟩
abbrev main_v21 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_v22 : Ref sig .tc := ⟨.hbm, 57, rfl⟩
abbrev main_cst_3 : Ref sig .tc := ⟨.hbm, 58, rfl⟩
abbrev main_v23 : Ref sig .tc := ⟨.hbm, 59, rfl⟩
abbrev main_call2_v0 : Ref sig .tc := ⟨.hbm, 60, rfl⟩
abbrev main_call2_cst : Ref sig .tc := ⟨.hbm, 61, rfl⟩
abbrev main_call2_c : Ref sig .tc := ⟨.hbm, 62, rfl⟩
abbrev main_call2_v1_0 : Ref sig .tc := ⟨.hbm, 63, rfl⟩
abbrev main_v24 : Ref sig .tc := ⟨.hbm, 64, rfl⟩
abbrev main_cst_4 : Ref sig .tc := ⟨.hbm, 65, rfl⟩
abbrev main_v25 : Ref sig .tc := ⟨.hbm, 66, rfl⟩
abbrev main_cst_5 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩

abbrev nD : Nat := 1
abbrev τ : Topo := Topo.v7x

variable {F : FTy → Type} [FloatOps F]
-- ==== Proof.KernelIdeal.Body.lean ====
/- What one grid step of the kernel computes, as a function of the five blocks that it loads.
   The selection threshold, which the kernel gets from 79 tiles of the distances, is kept as an unread function. -/
module

public import proofs.«01_k».proof.Proof.Gen.KernelIdeal.Skeleton

@[expose] public section

noncomputable section

namespace Cert.KernelIdeal.Body

open Cert.KernelIdeal Cert.KernelIdeal.Gen Idealize.ShloMosaic Idealize.SL.Sem

variable {F : FTy → Type} [FloatOps F] [Named F]

/-- The class of each column of the counts: 0, 1, …, 31 along each row. -/
def classes : IVec S128x32 32 := iota .tc S128x32 32 [1] iota_S128x32_d1_w32

/-- Plus infinity, as the kernel writes it. -/
def inf : F .f32 := Scalar.ofBits .f32 0x7F800000#32

/-- The counts by five rounds of extraction from the squared distances `d2` (the slow branch). -/
def slow (ids : IVec S1x10000 32) (d2 : FVec F S128x10000 .f32) : FVec F S128x32 .f32 :=
  k0_pay327
    (k0_pay12 (k0_pay326 ids) classes 1073741824#32 inf (k0_pay5 d2 (k0_pay326 ids) classes 1073741824#32 inf)
      (k0_pay6 d2 (k0_pay326 ids) 1073741824#32 inf) (k0_pay7 d2 (k0_pay326 ids) 1073741824#32 inf) (k0_pay8 (k0_pay326 ids)))
    (k0_pay13 (k0_pay326 ids) classes 1073741824#32 inf
      (k0_pay6 d2 (k0_pay326 ids) 1073741824#32 inf) (k0_pay7 d2 (k0_pay326 ids) 1073741824#32 inf) (k0_pay8 (k0_pay326 ids)))

/-- Whether the block takes the fast branch, from the pair `(p, q)` that gives the threshold. -/
def fastOk (ids : IVec S1x10000 32) (d2 : FVec F S128x10000 .f32) (p q : FVec F S128x1 .f32) : BitVec 1 :=
  Scalar.cmpi .ne (Scalar.extui (Scalar.andi
    (Scalar.cmpf .ogt (k0_pay325 (k0_pay324 ids d2 p q)) (Scalar.ofBits .f32 0x00000000#32))
    (Scalar.cmpf .ogt (k0_pay322 p q) (Scalar.ofBits .f32 0x00000000#32))) : BitVec 32) 0#32

/-- The counts of a block: those of the fast branch where it is taken, else those of the slow branch. -/
def counts (ids : IVec S1x10000 32) (d2 : FVec F S128x10000 .f32) (p q : FVec F S128x1 .f32) : FVec F S128x32 .f32 :=
  if fastOk ids d2 p q = 1#1 then k0_pay323 ids d2 p q else slow ids d2

/-- The body's last lines: a store to each output of a function of the counts. -/
def tail (arg7 arg8 : Memref sig .tc .vmem S1x1x1x128 .f32) (v : FVec F S128x32 .f32) : Prog (TpuEff nD τ sig (Elt F) Λ₀ .tc) PUnit := do
  let _ : Vec F S1x1x1x128 .f32 ← Prog.lift (.load arg7 (Rect.unit (s := S1x1x1x128) ![0, 0, 0, 0] S1x1x1x128.size inb_S1x1x1x128_S1x1x1x128_0_0_0_0).toLoadRect (View.loadsAt_vmem h_S1x1x1x128))
  Prog.lift (.store arg7 (Rect.unit (s := S1x1x1x128) ![0, 0, 0, 0] S1x1x1x128.size inb_S1x1x1x128_S1x1x1x128_0_0_0_0) (k0_pay329 v) Finset.univ (View.stores_vmem_bits_univ h_S1x1x1x128 rfl) (.inl rfl))
  let _ : Vec F S1x1x1x128 .f32 ← Prog.lift (.load arg8 (Rect.unit (s := S1x1x1x128) ![0, 0, 0, 0] S1x1x1x128.size inb_S1x1x1x128_S1x1x1x128_0_0_0_0).toLoadRect (View.loadsAt_vmem h_S1x1x1x128))
  Prog.lift (.store arg8 (Rect.unit (s := S1x1x1x128) ![0, 0, 0, 0] S1x1x1x128.size inb_S1x1x1x128_S1x1x1x128_0_0_0_0) (k0_pay330 v) Finset.univ (View.stores_vmem_bits_univ h_S1x1x1x128 rfl) (.inl rfl))

/-- A program that chooses between two continuations of one tail is the tail of the chosen value. -/
theorem tail_ite {arg7 arg8 : Memref sig .tc .vmem S1x1x1x128 .f32} {c : Prop} [Decidable c] {a b : FVec F S128x32 .f32}
    {A B : Prog (TpuEff nD τ sig (Elt F) Λ₀ .tc) PUnit} (hA : A = tail arg7 arg8 a) (hB : B = tail arg7 arg8 b) :
    ((if c then A else B) >>= fun _ => Prog.ret ⟨⟩) = tail arg7 arg8 (if c then a else b) := by
  have e : ∀ p : Prog (TpuEff nD τ sig (Elt F) Λ₀ .tc) PUnit, (p >>= fun _ => Prog.ret ⟨⟩) = p := Prog.bind_pure
  rw [e]; split <;> assumption

/-- The body's straight line: five loads, and a store to each output of a function of what was loaded. -/
def line (p q : Vec F S128x128 .f32 → Vec F S1x10000x128 .f32 → Vec F S1x128x1 .f32 → Vec F S1x1x10000 .f32 → FVec F S128x1 .f32)
    (arg2 : Memref sig .tc .vmem S128x128 .f32) (arg3 : Memref sig .tc .vmem S1x10000x128 .f32) (arg4 : Memref sig .tc .vmem S1x1x10000 .i32) (arg5 : Memref sig .tc .vmem S1x128x1 .f32) (arg6 : Memref sig .tc .vmem S1x1x10000 .f32) (arg7 arg8 : Memref sig .tc .vmem S1x1x1x128 .f32) :
    Prog (TpuEff nD τ sig (Elt F) Λ₀ .tc) PUnit := do
  let v0 : Vec F S128x128 .f32 ← Prog.lift (.load arg2 (Rect.unit (s := S128x128) ![0, 0] S128x128.size inb_S128x128_S128x128_0_0).toLoadRect (View.loadsAt_vmem h_S128x128))
  let v2 : Vec F S1x10000x128 .f32 ← Prog.lift (.load arg3 (Rect.unit (s := S1x10000x128) ![0, 0, 0] S1x10000x128.size inb_S1x10000x128_S1x10000x128_0_0_0).toLoadRect (View.loadsAt_vmem h_S1x10000x128))
  let v4 : Vec F S1x1x10000 .i32 ← Prog.lift (.load arg4 (Rect.unit (s := S1x1x10000) ![0, 0, 0] S1x1x10000.size inb_S1x1x10000_S1x1x10000_0_0_0).toLoadRect (View.loadsAt_vmem h_S1x1x10000))
  let v6 : Vec F S1x128x1 .f32 ← Prog.lift (.load arg5 (Rect.unit (s := S1x128x1) ![0, 0, 0] S1x128x1.size inb_S1x128x1_S1x128x1_0_0_0).toLoadRect (View.loadsAt_vmem h_S1x128x1))
  let v8 : Vec F S1x1x10000 .f32 ← Prog.lift (.load arg6 (Rect.unit (s := S1x1x10000) ![0, 0, 0] S1x1x10000.size inb_S1x1x10000_S1x1x10000_0_0_0).toLoadRect (View.loadsAt_vmem h_S1x1x10000))
  tail arg7 arg8 (counts (k0_pay14 v4) (k0_pay15 v0 v2 v6 v8) (p v0 v2 v6 v8) (q v0 v2 v6 v8))

set_option maxRecDepth 65536 in
set_option maxHeartbeats 4000000 in
/-- The body is its straight line, for some functions that give the threshold pair. -/
theorem body_exists : ∃ p q : Vec F S128x128 .f32 → Vec F S1x10000x128 .f32 → Vec F S1x128x1 .f32 → Vec F S1x1x10000 .f32 → FVec F S128x1 .f32,
    ∀ (i : grid0.Coords) (arg2 : Memref sig .tc .vmem S128x128 .f32) (harg2 : arg2.IsWhole) (arg3 : Memref sig .tc .vmem S1x10000x128 .f32) (harg3 : arg3.IsWhole) (arg4 : Memref sig .tc .vmem S1x1x10000 .i32) (harg4 : arg4.IsWhole) (arg5 : Memref sig .tc .vmem S1x128x1 .f32) (harg5 : arg5.IsWhole) (arg6 : Memref sig .tc .vmem S1x1x10000 .f32) (harg6 : arg6.IsWhole) (arg7 : Memref sig .tc .vmem S1x1x1x128 .f32) (harg7 : arg7.IsWhole) (arg8 : Memref sig .tc .vmem S1x1x1x128 .f32) (harg8 : arg8.IsWhole),
      cc0__knn_vote_body (F := F) i arg2 harg2 arg3 harg3 arg4 harg4 arg5 harg5 arg6 harg6 arg7 harg7 arg8 harg8 = line p q arg2 arg3 arg4 arg5 arg6 arg7 arg8 := by
  apply Exists.intro; apply Exists.intro
  intro i arg2 harg2 arg3 harg3 arg4 harg4 arg5 harg5 arg6 harg6 arg7 harg7 arg8 harg8
  · rw [cc0__knn_vote_body_eq_skeleton]
    unfold cc0__knn_vote_body_skel line
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton,
      k0_part1_skel, k0_part2_skel, k0_part3_skel, k0_part4_skel, k0_part5_skel, k0_part6_skel, k0_part7_skel, k0_part8_skel, k0_part9_skel, k0_part10_skel, k0_part11_skel, k0_part12_skel, k0_part13_skel, k0_part14_skel,
      Prog.bind_lift, Prog.bind_op, Prog.pure_eq_ret, Prog.bind_ret, Prog.lift, counts, fastOk, slow, classes, inf]
    iterate 5 refine congrArg _ (funext fun _ => ?_)
    exact tail_ite rfl rfl

/-- The lower end of the band that the threshold is taken from, by the blocks it depends on. -/
def bandLow : Vec F S128x128 .f32 → Vec F S1x10000x128 .f32 → Vec F S1x128x1 .f32 → Vec F S1x1x10000 .f32 → FVec F S128x1 .f32 :=
  Classical.choose (body_exists (F := F))

/-- The upper end of that band. -/
def bandHigh : Vec F S128x128 .f32 → Vec F S1x10000x128 .f32 → Vec F S1x128x1 .f32 → Vec F S1x1x10000 .f32 → FVec F S128x1 .f32 :=
  Classical.choose (Classical.choose_spec (body_exists (F := F)))

/-- The body is its straight line. -/
theorem body_eq (i : grid0.Coords) (arg2 : Memref sig .tc .vmem S128x128 .f32) (harg2 : arg2.IsWhole) (arg3 : Memref sig .tc .vmem S1x10000x128 .f32) (harg3 : arg3.IsWhole) (arg4 : Memref sig .tc .vmem S1x1x10000 .i32) (harg4 : arg4.IsWhole) (arg5 : Memref sig .tc .vmem S1x128x1 .f32) (harg5 : arg5.IsWhole) (arg6 : Memref sig .tc .vmem S1x1x10000 .f32) (harg6 : arg6.IsWhole) (arg7 : Memref sig .tc .vmem S1x1x1x128 .f32) (harg7 : arg7.IsWhole) (arg8 : Memref sig .tc .vmem S1x1x1x128 .f32) (harg8 : arg8.IsWhole) :
    cc0__knn_vote_body (F := F) i arg2 harg2 arg3 harg3 arg4 harg4 arg5 harg5 arg6 harg6 arg7 harg7 arg8 harg8 = line bandLow bandHigh arg2 arg3 arg4 arg5 arg6 arg7 arg8 :=
  Classical.choose_spec (Classical.choose_spec (body_exists (F := F))) i arg2 harg2 arg3 harg3 arg4 harg4 arg5 harg5 arg6 harg6 arg7 harg7 arg8 harg8

/-- The counts of a block, from the five blocks that the step loads. -/
def blockCounts (x0 : Vec F S128x128 .f32) (x1 : Vec F S1x10000x128 .f32) (x2 : Vec F S1x1x10000 .i32) (x3 : Vec F S1x128x1 .f32) (x4 : Vec F S1x1x10000 .f32) : FVec F S128x32 .f32 :=
  counts (k0_pay14 x2) (k0_pay15 x0 x1 x3 x4) (bandLow x0 x1 x3 x4) (bandHigh x0 x1 x3 x4)

end Cert.KernelIdeal.Body

end
-- ==== Proof.KernelIdeal.Run.lean ====
/- The launch of `KernelIdeal` and its frame: the body runs on any blocks, the pipeline runs every step, and the
   arguments end as they began with every counter at zero. -/
module

public import proofs.«01_k».proof.Proof.KernelIdeal.Body
public import proofs.«01_k».proof.Proof.Gen.KernelIdeal.Frame
public import Idealize.ShloMosaic.Lib.Claim

@[expose] public section

-- membership in a rectangle recurses once per coordinate of the long axes
set_option maxRecDepth 16384

noncomputable section

namespace Cert.KernelIdeal.Run

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## The body's accesses -/

abbrev r0_0 : Rect S128x128 := Rect.unit (s := S128x128) ![0, 0] S128x128.size inb_S128x128_S128x128_0_0
abbrev r0_1 : Rect S1x128x1 := Rect.unit (s := S1x128x1) ![0, 0, 0] S1x128x1.size inb_S1x128x1_S1x128x1_0_0_0
abbrev r0_2 : Rect S1x1x10000 := Rect.unit (s := S1x1x10000) ![0, 0, 0] S1x1x10000.size inb_S1x1x10000_S1x1x10000_0_0_0
abbrev r0_3 : Rect S1x10000x128 := Rect.unit (s := S1x10000x128) ![0, 0, 0] S1x10000x128.size inb_S1x10000x128_S1x10000x128_0_0_0
abbrev r0_4 : Rect S1x1x1x128 := Rect.unit (s := S1x1x1x128) ![0, 0, 0, 0] S1x1x1x128.size inb_S1x1x1x128_S1x1x1x128_0_0_0_0

/-! ## What the body leaves in each output window's buffer -/

/-- Window 5's staging buffer after the body, from the input windows' blocks: its 1 store as pieces, LAST
    FIRST (Lib/Pipeline/FrameBody.lean `View.canon`; the payloads are the skeleton's). -/
def out0_5 (x0 : Vec F S128x128 .f32) (x1 : Vec F S1x10000x128 .f32) (x2 : Vec F S1x1x10000 .i32) (x3 : Vec F S1x128x1 .f32) (x4 : Vec F S1x1x10000 .f32) : Vec F S1x1x1x128 .f32 :=
  View.canon [⟨r0_4, k0_pay329 (Body.blockCounts (View.ld x0 r0_0) (View.ld x1 r0_3) (View.ld x2 r0_2) (View.ld x3 r0_1) (View.ld x4 r0_2))⟩]

/-- Its stores tile the buffer (checked by evaluation), so they cover it. -/
theorem cover0_5 (p0 : Vec F S1x1x1x128 .f32) (y : S1x1x1x128.Idx) :
    ∃ pc ∈ ([⟨r0_4, p0⟩] : List (View.Piece (Elt F) S1x1x1x128 .f32)), y ∈ pc.1.set :=
  View.cover_of_tiled [⟨r0_4, p0⟩] S1x1x1x128.size (by rfl) y

/-- Window 6's staging buffer after the body, from the input windows' blocks: its 1 store as pieces, LAST
    FIRST (Lib/Pipeline/FrameBody.lean `View.canon`; the payloads are the skeleton's). -/
def out0_6 (x0 : Vec F S128x128 .f32) (x1 : Vec F S1x10000x128 .f32) (x2 : Vec F S1x1x10000 .i32) (x3 : Vec F S1x128x1 .f32) (x4 : Vec F S1x1x10000 .f32) : Vec F S1x1x1x128 .f32 :=
  View.canon [⟨r0_4, k0_pay330 (Body.blockCounts (View.ld x0 r0_0) (View.ld x1 r0_3) (View.ld x2 r0_2) (View.ld x3 r0_1) (View.ld x4 r0_2))⟩]

/-- Its stores tile the buffer (checked by evaluation), so they cover it. -/
theorem cover0_6 (p0 : Vec F S1x1x1x128 .f32) (y : S1x1x1x128.Idx) :
    ∃ pc ∈ ([⟨r0_4, p0⟩] : List (View.Piece (Elt F) S1x1x1x128 .f32)), y ∈ pc.1.set :=
  View.cover_of_tiled [⟨r0_4, p0⟩] S1x1x1x128.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg2 : Memref sig .tc .vmem S128x128 .f32) (harg2 : arg2.IsWhole) (arg3 : Memref sig .tc .vmem S1x10000x128 .f32) (harg3 : arg3.IsWhole) (arg4 : Memref sig .tc .vmem S1x1x10000 .i32) (harg4 : arg4.IsWhole) (arg5 : Memref sig .tc .vmem S1x128x1 .f32) (harg5 : arg5.IsWhole) (arg6 : Memref sig .tc .vmem S1x1x10000 .f32) (harg6 : arg6.IsWhole) (arg7 : Memref sig .tc .vmem S1x1x1x128 .f32) (harg7 : arg7.IsWhole) (arg8 : Memref sig .tc .vmem S1x1x1x128 .f32) (harg8 : arg8.IsWhole)
    (x0 : Vec F S128x128 .f32) (x1 : Vec F S1x10000x128 .f32) (x2 : Vec F S1x1x10000 .i32) (x3 : Vec F S1x128x1 .f32) (x4 : Vec F S1x1x10000 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out0_5 x0 x1 x2 x3 x4) ∗ owns (c : Thread nD τ) arg8 fullShare (out0_6 x0 x1 x2 x3 x4)) -∗ K ⟨⟩))
      ⊢ wp frame (wpE (defs₀ (F := F)) Variants.none c none) E (cc0__knn_vote_body i arg2 harg2 arg3 harg3 arg4 harg4 arg5 harg5 arg6 harg6 arg7 harg7 arg8 harg8) K := by
  rw [Body.body_eq]; unfold Body.line Body.tail
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
    | ⟨6, _⟩ => out0_6 (iblk m c 0 t) (iblk m c 1 t) (iblk m c 2 t) (iblk m c 3 t) (iblk m c 4 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out0_5 (iblk m c 0 t) (iblk m c 1 t) (iblk m c 2 t) (iblk m c 3 t) (iblk m c 4 t) := by dsimp only [dats]
theorem after0_6 (c : Dev nD) (t : Fin cfg0.N) : (dats m 0 c).after 6 t = out0_6 (iblk m c 0 t) (iblk m c 1 t) (iblk m c 2 t) (iblk m c 3 t) (iblk m c 4 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Run

end
-- ==== Proof.Vote.lean ====
/- The five nearest of a row of distances, and how they vote: the mathematics that the kernel and the reference share.
   Positions are ordered by their distance and, among equal distances, by their number. -/
module

public import Mathlib.Data.Fintype.Card
public import Mathlib.Data.Finset.Fold
public import Mathlib.Data.Fintype.Basic
public import Mathlib.Order.Basic
public import Mathlib.Data.Fintype.EquivFin
public import Mathlib.Data.Finset.Max
public import Mathlib.Tactic.Common

@[expose] public section

noncomputable section

namespace Cert.Vote

open Finset

section order
variable {n : ℕ} {α β : Type} [LinearOrder α] [LinearOrder β]

/-- Position `k` comes before position `l`: it is nearer, or as near and of smaller number. -/
def Before (d : Fin n → α) (k l : Fin n) : Prop := d k < d l ∨ (d k = d l ∧ k < l)

/-- Whether one comes before another can be decided. -/
instance (d : Fin n → α) (k l : Fin n) : Decidable (Before d k l) := by unfold Before; infer_instance

/-- No position comes before itself. -/
theorem before_irrefl (d : Fin n → α) (k : Fin n) : ¬ Before d k k := by
  rintro (h | ⟨_, h⟩) <;> exact lt_irrefl _ h

/-- The order is transitive. -/
theorem before_trans {d : Fin n → α} {k l p : Fin n} (h : Before d k l) (h' : Before d l p) : Before d k p := by
  rcases h with h | ⟨e, h⟩ <;> rcases h' with h' | ⟨e', h'⟩
  · exact .inl (h.trans h')
  · exact .inl (e' ▸ h)
  · exact .inl (e ▸ h')
  · exact .inr ⟨e.trans e', h.trans h'⟩

/-- Of two different positions one comes before the other. -/
theorem before_total (d : Fin n → α) {k l : Fin n} (h : k ≠ l) : Before d k l ∨ Before d l k := by
  rcases lt_trichotomy (d k) (d l) with h1 | h1 | h1
  · exact .inl (.inl h1)
  · rcases lt_or_gt_of_ne h with h2 | h2
    · exact .inl (.inr ⟨h1, h2⟩)
    · exact .inr (.inr ⟨h1.symm, h2⟩)
  · exact .inr (.inl h1)

/-- How many positions come before `k`. -/
def rank (d : Fin n → α) (k : Fin n) : ℕ := (univ.filter fun l => Before d l k).card

/-- A position that comes before another has a smaller rank. -/
theorem rank_lt_of_before {d : Fin n → α} {k l : Fin n} (h : Before d k l) : rank d k < rank d l := by
  apply card_lt_card
  refine ⟨fun p hp => ?_, fun hs => ?_⟩
  · simp only [mem_filter, mem_univ, true_and] at hp ⊢
    exact before_trans hp h
  · have := hs (show k ∈ univ.filter fun p => Before d p l by simpa using h)
    exact before_irrefl d k (by simpa using this)

/-- Ranks are ordered as positions are. -/
theorem rank_lt_iff {d : Fin n → α} {k l : Fin n} : rank d k < rank d l ↔ Before d k l := by
  refine ⟨fun h => ?_, rank_lt_of_before⟩
  by_cases e : k = l
  · subst e; exact absurd h (lt_irrefl _)
  · exact (before_total d e).resolve_right fun h' => absurd (rank_lt_of_before h') (by omega)

/-- Different positions have different ranks. -/
theorem rank_injective (d : Fin n → α) : Function.Injective (rank d) := by
  intro k l h
  by_contra e
  rcases before_total d e with h' | h' <;> have := rank_lt_of_before h' <;> omega

/-- A rank is below the number of positions. -/
theorem rank_lt (d : Fin n → α) (k : Fin n) : rank d k < n := by
  have : rank d k < (univ : Finset (Fin n)).card := by
    apply card_lt_card
    exact ⟨filter_subset _ _, fun hs => before_irrefl d k (by simpa using hs (mem_univ k))⟩
  simpa using this

/-- Every number below the number of positions is a rank. -/
theorem exists_rank (d : Fin n → α) (j : ℕ) (hj : j < n) : ∃ k, rank d k = j := by
  have hinj : Function.Injective fun k : Fin n => (⟨rank d k, rank_lt d k⟩ : Fin n) := fun k l h =>
    rank_injective d (by simpa using h)
  obtain ⟨k, hk⟩ := (Finite.injective_iff_surjective.mp hinj) ⟨j, hj⟩
  exact ⟨k, by simpa using hk⟩

/-- Distances in the same order give the same ranks. -/
theorem rank_congr {d : Fin n → α} {d' : Fin n → β} (h : ∀ k l, d k < d l ↔ d' k < d' l) : rank d = rank d' := by
  funext k
  refine congrArg card (filter_congr fun l _ => ?_)
  have e : d l = d k ↔ d' l = d' k := by
    rw [le_antisymm_iff, le_antisymm_iff, ← not_lt, ← not_lt, ← not_lt, ← not_lt, h, h]
  unfold Before
  rw [h, e]

/-- `σ` lists the five first positions, in order. -/
def IsFirst (d : Fin n → α) (σ : Fin 5 → Fin n) : Prop := ∀ j, rank d (σ j) = j.val

/-- Among five positions or more there are five first ones. -/
theorem exists_isFirst (d : Fin n → α) (h : 5 ≤ n) : ∃ σ, IsFirst d σ := by
  choose σ hσ using fun j : Fin 5 => exists_rank d j.val (lt_of_lt_of_le j.isLt h)
  exact ⟨σ, hσ⟩

/-- The five are different. -/
theorem IsFirst.injective {d : Fin n → α} {σ : Fin 5 → Fin n} (h : IsFirst d σ) : Function.Injective σ := by
  intro i j e
  have := h i
  rw [e, h j] at this
  exact Fin.ext this.symm

/-- The list depends on the order of the distances alone. -/
theorem IsFirst.congr {d : Fin n → α} {d' : Fin n → β} {σ : Fin 5 → Fin n} (h : IsFirst d σ)
    (hd : ∀ k l, d k < d l ↔ d' k < d' l) : IsFirst d' σ := fun j => by rw [← rank_congr hd]; exact h j

/-- A position is among the five exactly where its rank is below five. -/
theorem IsFirst.mem_image_iff {d : Fin n → α} {σ : Fin 5 → Fin n} (h : IsFirst d σ) (k : Fin n) :
    k ∈ univ.image σ ↔ rank d k < 5 := by
  rw [mem_image]
  constructor
  · rintro ⟨j, _, rfl⟩; rw [h j]; exact j.isLt
  · intro hk
    exact ⟨⟨rank d k, hk⟩, mem_univ _, rank_injective d (h _)⟩

/-- If exactly five positions lie within a bound, they are the five first ones. -/
theorem IsFirst.eq_of_card {d : Fin n → α} {σ : Fin 5 → Fin n} (h : IsFirst d σ) (p : Fin n → Prop) [DecidablePred p]
    (hp : ∀ k l, d l ≤ d k → p k → p l) (hc : (univ.filter p).card = 5) : univ.filter p = univ.image σ := by
  apply eq_of_subset_of_card_le
  · intro k hk
    rw [h.mem_image_iff, ← hc]
    apply card_lt_card
    refine ⟨fun l hl => ?_, fun hs => before_irrefl d k (by simpa using hs hk)⟩
    simp only [mem_filter, mem_univ, true_and] at hl hk ⊢
    refine hp k l ?_ hk
    rcases hl with hl | ⟨hl, _⟩
    · exact hl.le
    · exact hl.le
  · rw [hc, card_image_of_injective _ h.injective]; simp

/-- How many of the five have class `c`. -/
def votes {γ : Type} [DecidableEq γ] (σ : Fin 5 → Fin n) (id : Fin n → γ) (c : γ) : ℕ := (univ.filter fun j => id (σ j) = c).card

/-- Counted over the positions within such a bound, a class has the votes that it has among the five. -/
theorem IsFirst.count_eq {γ : Type} [DecidableEq γ] {d : Fin n → α} {σ : Fin 5 → Fin n} (h : IsFirst d σ) (p : Fin n → Prop) [DecidablePred p]
    (hp : ∀ k l, d l ≤ d k → p k → p l) (hc : (univ.filter p).card = 5) (id : Fin n → γ) (c : γ) :
    (univ.filter fun k => p k ∧ id k = c).card = votes σ id c := by
  rw [filter_and, h.eq_of_card p hp hc]
  unfold votes
  rw [← card_image_of_injective _ h.injective]
  congr 1
  ext k
  simp only [mem_inter, mem_filter, mem_image, mem_univ, true_and]
  constructor
  · rintro ⟨⟨j, rfl⟩, e⟩; exact ⟨j, e, rfl⟩
  · rintro ⟨j, e, rfl⟩; exact ⟨⟨j, rfl⟩, e⟩

/-- A position that is not before the `j`-th of the five, and is as near, has no smaller number. -/
theorem IsFirst.le_of_eq {d : Fin n → α} {σ : Fin 5 → Fin n} (h : IsFirst d σ) (j : Fin 5) {k : Fin n}
    (hk : ¬ rank d k < j.val) (e : d k = d (σ j)) : σ j ≤ k := by
  by_contra hlt
  exact hk (by rw [← h j]; exact rank_lt_of_before (.inr ⟨e, not_le.mp hlt⟩))

/-- A position that is not before the `j`-th of the five is no nearer. -/
theorem IsFirst.le {d : Fin n → α} {σ : Fin 5 → Fin n} (h : IsFirst d σ) (j : Fin 5) {k : Fin n}
    (hk : ¬ rank d k < j.val) : d (σ j) ≤ d k := by
  by_contra hlt
  exact hk (by rw [← h j]; exact rank_lt_of_before (.inl (not_le.mp hlt)))

end order

section fold
variable {ι α : Type} (f : α → α → α) [Std.Commutative f] [Std.Associative f]

/-- What absorbs every term of a fold absorbs the fold. -/
theorem absorb_fold [DecidableEq ι] (v init : α) (g : ι → α) (S : Finset ι) (h0 : f v init = v) (hg : ∀ i ∈ S, f v (g i) = v) :
    f v (S.fold f init g) = v := by
  induction S using Finset.induction_on with
  | empty => simpa using h0
  | insert a S ha ih =>
    rw [fold_insert ha, ← Std.Associative.assoc (op := f), hg a (mem_insert_self a S)]
    exact ih fun i hi => hg i (mem_insert_of_mem hi)

/-- A fold is the term that absorbs the others. -/
theorem fold_eq_of_absorb [DecidableEq ι] (v init : α) (g : ι → α) (S : Finset ι) (i : ι) (hi : i ∈ S) (hv : g i = v)
    (h0 : f v init = v) (hg : ∀ i ∈ S, f v (g i) = v) : S.fold f init g = v := by
  rw [← insert_erase hi, fold_insert (notMem_erase i S), hv]
  exact absorb_fold f v init g _ h0 fun j hj => hg j (mem_of_mem_erase hj)

end fold

/-- `c` is the first class of largest count. -/
def IsMode {m : ℕ} (v : Fin m → ℕ) (c : Fin m) : Prop := (∀ b, v b ≤ v c) ∧ ∀ b, v b = v c → c ≤ b

/-- There is a first class of largest count. -/
theorem exists_isMode {m : ℕ} (hm : 0 < m) (v : Fin m → ℕ) : ∃ c, IsMode v c := by
  haveI : Nonempty (Fin m) := ⟨⟨0, hm⟩⟩
  obtain ⟨c₀, _, h₀'⟩ := exists_max_image univ v univ_nonempty
  have h₀ : ∀ b, v b ≤ v c₀ := fun b => h₀' b (mem_univ b)
  have hne : (univ.filter fun b => v b = v c₀).Nonempty := ⟨c₀, by simp⟩
  refine ⟨(univ.filter fun b => v b = v c₀).min' hne, fun b => ?_, fun b hb => ?_⟩
  · have := (mem_filter.mp (min'_mem _ hne)).2
    rw [this]; exact h₀ b
  · have := (mem_filter.mp (min'_mem _ hne)).2
    exact min'_le _ _ (by simp [hb, this])

end Cert.Vote

end
-- ==== Proof.Read.lean ====
/- How a few operations are read at an index: a reduction whose result is one of its terms, and a column spread over
   the columns. -/
module

public import proofs.«01_k».proof.Proof.Vote
public import Idealize.ShloMosaic.PureOps.Ideal.Laws
public import Idealize.ShloMosaic.Lib.ValueIdx
public import Idealize.ShloMosaic.Lib.Pipeline.Value
public import Idealize.ShloMosaic.Lib.Pointwise.ElementwiseCore
public import Idealize.ShloMosaic.Lib.MatmulPlain
public import Idealize.ShloMosaic.Lib.ValueLayout
public import Idealize.ShloMosaic.Lib.ValueLayoutCasts
public import Idealize.ShloMosaic.Lib.Pipeline.Value

@[expose] public section

noncomputable section

namespace Cert.Read

open Idealize.ShloMosaic Idealize.ShloMosaic.ValueIdx

/-- The word of plus infinity denotes the greatest value. -/
theorem ofBits_inf : Ideal.ofBits .f32 0x7F800000#32 = (⊤ : EReal) := by simp [Ideal.ofBits, Ideal.ieee]
/-- The word of minus infinity denotes the least value. -/
theorem ofBits_neg_inf : Ideal.ofBits .f32 0xFF800000#32 = (⊥ : EReal) := by simp [Ideal.ofBits, Ideal.ieee]
/-- The word of one denotes one. -/
theorem ofBits_one : Ideal.ofBits .f32 0x3F800000#32 = ((1 : ℝ) : EReal) := by
  simp [Ideal.ofBits, Ideal.ieee, -EReal.coe_mul, ← EReal.coe_mul]; norm_num
/-- The word of five denotes five. -/
theorem ofBits_five : Ideal.ofBits .f32 0x40A00000#32 = ((5 : ℝ) : EReal) := by
  simp [Ideal.ofBits, Ideal.ieee, -EReal.coe_mul, ← EReal.coe_mul]; norm_num
/-- The word of two denotes two. -/
theorem ofBits_two : Ideal.ofBits .f32 0x40000000#32 = ((2 : ℝ) : EReal) := by
  simp [Ideal.ofBits, Ideal.ieee, -EReal.coe_mul, ← EReal.coe_mul]; norm_num
/-- The word of minus two denotes minus two. -/
theorem ofBits_neg_two : Ideal.ofBits .f32 0xC0000000#32 = ((-2 : ℝ) : EReal) := by
  simp [Ideal.ofBits, Ideal.ieee, -EReal.coe_mul, ← EReal.coe_mul]; norm_num

/-- The word of an equality of words. -/
theorem cmpi_eq {w : ℕ} (a b : BitVec w) : IntOp.cmpi .eq a b = if a = b then 1#1 else 0#1 := by
  by_cases h : a = b
  · simp [IntOp.cmpi, h]
  · rw [if_neg h]; simp only [IntOp.cmpi, beq_eq_false_iff_ne.mpr h]; rfl
/-- The word of an equality of numbers. -/
theorem cmp_oeq (x y : EReal) : Ideal.cmp .oeq x y = if x = y then 1#1 else 0#1 := by
  by_cases h : x = y <;> simp [Ideal.cmp, h]
/-- The word of `≤`. -/
theorem cmp_ole (x y : EReal) : Ideal.cmp .ole x y = if x ≤ y then 1#1 else 0#1 := by
  by_cases h : x ≤ y <;> simp [Ideal.cmp, h]
/-- The word of `>`. -/
theorem cmp_ogt (x y : EReal) : Ideal.cmp .ogt x y = if y < x then 1#1 else 0#1 := by
  by_cases h : y < x <;> simp [Ideal.cmp, h]
/-- A select by the word of a condition. -/
theorem select_ite {α : Type} (p : Prop) [Decidable p] (a b : α) : Scalar.select (if p then 1#1 else 0#1) a b = if p then a else b := by
  by_cases h : p <;> simp [h, Scalar.select]
/-- The number of the word of a condition. -/
theorem sitofp_ite (p : Prop) [Decidable p] :
    (FloatOps.sitofp .f32 ((if p then 1#1 else 0#1 : BitVec 1).setWidth 32) : Ideal .f32) = (((if p then 1 else 0 : ℕ) : ℝ) : EReal) := by
  by_cases h : p <;> simp [h, FloatOps.sitofp]
/-- The words of two small numbers are equal just where the numbers are. -/
theorem ofNat_inj {a b : ℕ} (ha : a < 2 ^ 31) (hb : b < 2 ^ 31) : BitVec.ofNat 32 a = BitVec.ofNat 32 b ↔ a = b := by
  refine ⟨fun h => ?_, fun h => by rw [h]⟩
  have := congrArg BitVec.toNat h
  rw [BitVec.toNat_ofNat, BitVec.toNat_ofNat] at this
  omega
/-- The signed value of the word of a small number. -/
theorem toInt_ofNat {a : ℕ} (ha : a < 2 ^ 31) : (BitVec.ofNat 32 a).toInt = a := by
  rw [BitVec.toInt_eq_toNat_of_lt (by rw [BitVec.toNat_ofNat]; omega), BitVec.toNat_ofNat]
  omega
/-- A number below 32 put beside another one that is moved five places up. -/
theorem pack {a b : ℕ} (ha : a < 2 ^ 20) (hb : b < 32) :
    IntOp.ori (IntOp.shli .vector (BitVec.ofNat 32 a) 5#32) (BitVec.ofNat 32 b) = BitVec.ofNat 32 (32 * a + b) := by
  apply BitVec.eq_of_toNat_eq
  show (BitVec.ofNat 32 a <<< 5 ||| BitVec.ofNat 32 b).toNat = _
  rw [BitVec.toNat_or, BitVec.toNat_shiftLeft, BitVec.toNat_ofNat, BitVec.toNat_ofNat, BitVec.toNat_ofNat,
    Nat.mod_eq_of_lt (by omega : a < 2 ^ 32), Nat.mod_eq_of_lt (by omega : b < 2 ^ 32),
    Nat.mod_eq_of_lt (by omega : 32 * a + b < 2 ^ 32),
    Nat.mod_eq_of_lt (by rw [Nat.shiftLeft_eq]; omega), ← Nat.shiftLeft_add_eq_or_of_lt (by omega : b < 2 ^ 5), Nat.shiftLeft_eq]
  omega
/-- The low five places of such a number. -/
theorem unpack {a b : ℕ} (ha : a < 2 ^ 20) (hb : b < 32) :
    IntOp.andi (BitVec.ofNat 32 (32 * a + b)) 31#32 = BitVec.ofNat 32 b := by
  apply BitVec.eq_of_toNat_eq
  show (BitVec.ofNat 32 (32 * a + b) &&& 31#32).toNat = _
  rw [BitVec.toNat_and, BitVec.toNat_ofNat, BitVec.toNat_ofNat, BitVec.toNat_ofNat, Nat.mod_eq_of_lt (by omega : 32 * a + b < 2 ^ 32),
    show 31 % 2 ^ 32 = 2 ^ 5 - 1 from rfl, Nat.and_two_pow_sub_one_eq_mod]
  omega

/-- A finite sum of reals, as an extended real. -/
theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The sum of the products of two marks counts the positions that have both. -/
theorem sum_marks {ι : Type*} [Fintype ι] (p q : ι → Prop) [DecidablePred p] [DecidablePred q] :
    ∑ k, (((if p k then 1 else 0 : ℕ) : ℝ) : EReal) * (((if q k then 1 else 0 : ℕ) : ℝ) : EReal)
      = (((Finset.univ.filter fun k => p k ∧ q k).card : ℝ) : EReal) := by
  rw [Finset.card_filter]
  push_cast
  rw [coe_sum]
  refine Finset.sum_congr rfl fun k _ => ?_
  by_cases hp : p k <;> by_cases hq : q k <;> simp [hp, hq]

section reduce
variable {s t : Shape} {a : Fin s.rank}

/-- A minimum over one axis is the term that is no greater than the others. -/
theorem min_single (src : FVec Ideal s .f32) (h : s.Reduces [a] t) (hφ : FKind.Formats .f32)
    (hacc : 0x7F800000#32 = FKind.minimumf.neutral .f32 hφ) (j : t.Idx) (k₀ : Fin (s.size a))
    (hle : ∀ k, src (h.lift j k₀) ≤ src (h.lift j k)) :
    multiReduction .minimumf [a] t src 0x7F800000#32 h hφ hacc j = src (h.lift j k₀) := by
  rw [multiReduction_minimumf_eq_fold, h.fold_filter_drop_single]
  refine Cert.Vote.fold_eq_of_absorb _ _ _ _ _ k₀ (Finset.mem_univ _) rfl ?_ fun k _ => min_eq_left (hle k)
  exact min_eq_left (le_of_le_of_eq le_top ofBits_inf.symm)

/-- A maximum over one axis is the term that is no less than the others. -/
theorem max_single (src : FVec Ideal s .f32) (h : s.Reduces [a] t) (hφ : FKind.Formats .f32)
    (hacc : 0xFF800000#32 = FKind.maximumf.neutral .f32 hφ) (j : t.Idx) (k₀ : Fin (s.size a))
    (hle : ∀ k, src (h.lift j k) ≤ src (h.lift j k₀)) :
    multiReduction .maximumf [a] t src 0xFF800000#32 h hφ hacc j = src (h.lift j k₀) := by
  rw [multiReduction_maximumf_eq_fold, h.fold_filter_drop_single]
  refine Cert.Vote.fold_eq_of_absorb _ _ _ _ _ k₀ (Finset.mem_univ _) rfl ?_ fun k _ => max_eq_left (hle k)
  exact max_eq_left (le_of_eq_of_le ofBits_neg_inf bot_le)

/-- A minimum is no greater than each of the terms that go into it. -/
theorem min_le_term {dims : List (Fin s.rank)} (src : FVec Ideal s .f32) (h : s.Reduces dims t) (hφ : FKind.Formats .f32)
    (hacc : 0x7F800000#32 = FKind.minimumf.neutral .f32 hφ) (j : t.Idx) (i : s.Idx) (hi : h.drop i = j) (x : EReal) (hx : src i ≤ x) :
    multiReduction .minimumf dims t src 0x7F800000#32 h hφ hacc j ≤ x := by
  rw [multiReduction_minimumf_eq_fold]
  exact (Finset.fold_min_le (β := EReal) x).mpr (Or.inr ⟨i, Finset.mem_filter.mpr ⟨Finset.mem_univ _, hi⟩, hx⟩)

/-- A host's maximum over one axis is the term that is no less than the others. -/
theorem hostMax_single {u : Shape} (src : FVec Ideal s .f32) (init : FVec Ideal u .f32) (h' : s.ReducesTo [a] t) (h : s.Reduces [a] t)
    (hu : 0 < u.numel) (j : t.Idx) (k₀ : Fin (s.size a)) (h0 : init (Shape.Idx.first hu) = (⊥ : EReal))
    (hle : ∀ k, src (h.lift j k) ≤ src (h.lift j k₀)) :
    Host.reduce FloatOps.maximumf src init h' hu j = src (h.lift j k₀) := by
  rw [Host.reduce_eq_fold_single FloatOps.maximumf src init h' h hu j, h0]
  exact Cert.Vote.fold_eq_of_absorb _ _ _ _ _ k₀ (Finset.mem_univ _) rfl (max_eq_left bot_le) fun k _ => max_eq_left (hle k)

/-- The signed minimum is its left operand where that is no greater. -/
theorem minsi_eq_left {a b : BitVec 32} (h : a.toInt ≤ b.toInt) : IntOp.minsi a b = a := by
  unfold IntOp.minsi
  by_cases h' : a.toInt = b.toInt
  · rw [BitVec.eq_of_toInt_eq h']; split <;> rfl
  · simp [BitVec.slt]; omega

/-- A signed minimum over one axis is the term that is no greater than the others. -/
theorem minsi_single (src : IVec s 32) (h : s.Reduces [a] t) (hacc : 2147483647#32 = IKind.minsi.neutral) (j : t.Idx) (k₀ : Fin (s.size a))
    (hle : ∀ k, (src (h.lift j k₀)).toInt ≤ (src (h.lift j k)).toInt) :
    multiReductionI .minsi [a] t src 2147483647#32 h hacc j = src (h.lift j k₀) := by
  rw [multiReductionI_eq_fold, h.fold_filter_drop_single]
  refine Cert.Vote.fold_eq_of_absorb _ _ _ _ _ k₀ (Finset.mem_univ _) rfl ?_ fun k _ => minsi_eq_left (hle k)
  refine minsi_eq_left ?_
  have := BitVec.toInt_lt (x := src (h.lift j k₀))
  have e : (2147483647#32 : BitVec 32).toInt = 2147483647 := by decide
  omega

end reduce

/-- A column spread over the columns, at an index. -/
theorem broadcastTo_a1_ab_apply {α : Type} {m n : ℕ} (v : (⟨2, ![m, 1]⟩ : Shape).Idx → α) (h : (⟨2, ![m, 1]⟩ : Shape).Broadcasts ⟨2, ![m, n]⟩)
    (r : Fin m) (c : Fin n) : broadcastTo ⟨2, ![m, n]⟩ v h (ix2 r c) = v (ix2 r (0 : Fin 1)) := by
  refine broadcastTo_apply v h (ix2 r c) (ix2 r (0 : Fin 1)) fun ax => ?_
  match ax with
  | ⟨0, _⟩ =>
    show r.val = if m = 1 then 0 else r.val
    split
    · have := r.isLt; omega
    · rfl
  | ⟨1, _⟩ => rfl

end Cert.Read

end
-- ==== Proof.Spec.lean ====
/- The results, as real numbers: the five nearest encodings of each query, the votes of their classes, the first class
   of most votes and its share. -/
module

public import proofs.«01_k».proof.Proof.Read

@[expose] public section

noncomputable section

namespace Cert.Spec

open Idealize.ShloMosaic Idealize.ShloMosaic.ValueIdx

/-- The slots. -/
abbrev Slots := FVec Ideal ⟨3, ![32, 8, 2048]⟩ .f32
/-- The encodings of the corpus, by block. -/
abbrev Encs := FVec Ideal ⟨3, ![16, 10000, 128]⟩ .f32
/-- The classes of the encodings. -/
abbrev Ids := IVec ⟨2, ![16, 10000]⟩ 32

/-- Where coordinate `e` of query `R` of block `b` lies among the slots. -/
def place (b : Fin 16) (R : Fin 256) (e : Fin 128) : (⟨3, ![32, 8, 2048]⟩ : Shape).Idx :=
  ix3 (⟨R.val / 8, by have := R.isLt; omega⟩ : Fin 32) (⟨R.val % 8, by omega⟩ : Fin 8)
    (⟨b.val * 128 + e.val, by have := b.isLt; have := e.isLt; omega⟩ : Fin 2048)

/-- Every coordinate is a real number, and every class is one of 32. -/
structure Ok (x0 : Slots) (x1 : Encs) (x2 : Ids) : Prop where
  slot : ∀ b R e, x0 (place b R e) = (((x0 (place b R e)).toReal : ℝ) : EReal)
  enc : ∀ b k e, x1 (ix3 b k e) = (((x1 (ix3 b k e)).toReal : ℝ) : EReal)
  id : ∀ b k, (x2 (ix2 b k)).toNat < 32

/-- The coordinates of a query. -/
def query (x0 : Slots) (b : Fin 16) (R : Fin 256) (e : Fin 128) : ℝ := (x0 (place b R e)).toReal
/-- The coordinates of an encoding. -/
def enc (x1 : Encs) (b : Fin 16) (k : Fin 10000) (e : Fin 128) : ℝ := (x1 (ix3 b k e)).toReal
/-- The class of an encoding. -/
def cls (x2 : Ids) (b : Fin 16) (k : Fin 10000) : Fin 32 := ⟨(x2 (ix2 b k)).toNat % 32, Nat.mod_lt _ (by omega)⟩

/-- The squared distance of a query and an encoding. -/
def dist (x0 : Slots) (x1 : Encs) (b : Fin 16) (R : Fin 256) (k : Fin 10000) : ℝ :=
  max (∑ e, query x0 b R e * query x0 b R e + ∑ e, enc x1 b k e * enc x1 b k e - 2 * ∑ e, query x0 b R e * enc x1 b k e) 0

/-- A squared distance is not negative. -/
theorem dist_nonneg (x0 : Slots) (x1 : Encs) (b : Fin 16) (R : Fin 256) (k : Fin 10000) : 0 ≤ dist x0 x1 b R k := le_max_right _ _

/-- The word of a class is the class's number. -/
theorem Ok.word {x0 : Slots} {x1 : Encs} {x2 : Ids} (h : Ok x0 x1 x2) (b : Fin 16) (k : Fin 10000) :
    x2 (ix2 b k) = BitVec.ofNat 32 (cls x2 b k).val := by
  apply BitVec.eq_of_toNat_eq
  have := h.id b k
  rw [BitVec.toNat_ofNat]
  show _ = (x2 (ix2 b k)).toNat % 32 % 2 ^ 32
  omega

/-- The five nearest encodings of a query, nearest first; of equally near ones the one of least number is first. -/
def nearest (x0 : Slots) (x1 : Encs) (b : Fin 16) (R : Fin 256) : Fin 5 → Fin 10000 :=
  (Vote.exists_isFirst (dist x0 x1 b R) (by omega)).choose
/-- `nearest` lists the five that come first. -/
theorem nearest_isFirst (x0 : Slots) (x1 : Encs) (b : Fin 16) (R : Fin 256) : Vote.IsFirst (dist x0 x1 b R) (nearest x0 x1 b R) :=
  (Vote.exists_isFirst (dist x0 x1 b R) (by omega)).choose_spec

/-- The votes of the five nearest for each class. -/
def votes (x0 : Slots) (x1 : Encs) (x2 : Ids) (b : Fin 16) (R : Fin 256) (c : Fin 32) : ℕ :=
  Vote.votes (nearest x0 x1 b R) (cls x2 b) c

/-- The first class of most votes. -/
def mode (x0 : Slots) (x1 : Encs) (x2 : Ids) (b : Fin 16) (R : Fin 256) : Fin 32 :=
  (Vote.exists_isMode (by omega) (votes x0 x1 x2 b R)).choose
/-- `mode` is the first class of most votes. -/
theorem mode_isMode (x0 : Slots) (x1 : Encs) (x2 : Ids) (b : Fin 16) (R : Fin 256) :
    Vote.IsMode (votes x0 x1 x2 b R) (mode x0 x1 x2 b R) :=
  (Vote.exists_isMode (by omega) (votes x0 x1 x2 b R)).choose_spec

/-- The first result at block `b`, query `R`. -/
def code (x0 : Slots) (x1 : Encs) (x2 : Ids) (b : Fin 16) (R : Fin 256) : EReal := (((mode x0 x1 x2 b R).val : ℝ) : EReal)
/-- The second result at block `b`, query `R`. -/
def share (x0 : Slots) (x1 : Encs) (x2 : Ids) (b : Fin 16) (R : Fin 256) : EReal :=
  (((votes x0 x1 x2 b R (mode x0 x1 x2 b R) : ℝ) * (1 / 5) : ℝ) : EReal)

/-- A result as it is returned: by slot, head and block. -/
def laid (G : Fin 16 → Fin 256 → EReal) : FVec Ideal ⟨3, ![32, 8, 16]⟩ .f32 := fun i =>
  G (i 2) ⟨(i 0).val * 8 + (i 1).val, by
    have h0 : (i 0).val < 32 := (i 0).isLt
    have h1 : (i 1).val < 8 := (i 1).isLt
    omega⟩

/-- An array of 16 by 256, its axes exchanged and its rows parted, is laid as the results are. -/
theorem laid_eq (g : FVec Ideal ⟨2, ![16, 256]⟩ .f32) (G : Fin 16 → Fin 256 → EReal) (hg : ∀ b R, g (ix2 b R) = G b R)
    (ht : (⟨2, ![16, 256]⟩ : Shape).Transposes [1, 0] ⟨2, ![256, 16]⟩) (hs : (⟨2, ![256, 16]⟩ : Shape).ShapeCasts ⟨3, ![32, 8, 16]⟩) :
    shapeCast ⟨3, ![32, 8, 16]⟩ (transpose ⟨2, ![256, 16]⟩ [1, 0] g ht) hs = laid G := by
  funext i
  have h0 : (i 0).val < 32 := (i 0).isLt
  have h1 : (i 1).val < 8 := (i 1).isLt
  refine (shapeCast_apply _ _ i (ix2 (⟨(i 0).val * 8 + (i 1).val, by omega⟩ : Fin 256) (i 2 : Fin 16)) ?_).trans ?_
  · rw [Shape.rowMajor_val_two, Shape.rowMajor_val_three]
    rfl
  · exact (transpose_ix2_apply g ht (⟨(i 0).val * 8 + (i 1).val, by omega⟩ : Fin 256) (i 2 : Fin 16)).trans (hg _ _)

end Cert.Spec

end
-- ==== Proof.KernelIdeal.Host.lean ====
/- What the lines before the launch leave in the arrays that the launch reads, from the arguments. -/
module

public import proofs.«01_k».proof.Proof.Gen.KernelIdeal.Frame
public import proofs.«01_k».proof.Proof.Spec
public import Idealize.ShloMosaic.Lib.StableHlo.Run

@[expose] public section

noncomputable section

namespace Cert.KernelIdeal.Host

open Cert.KernelIdeal Cert.KernelIdeal.Gen Idealize.ShloMosaic Idealize.ShloMosaic.ValueIdx Idealize.ShloMosaic.TcCoe
open Idealize.ShloMosaic.StableHlo

variable (m : (ℓ : Loc nD τ sig) → Buf (Elt Ideal) ℓ) (c : Dev nD)

/-- The arguments. -/
abbrev slots : Spec.Slots := m ((c : Thread nD τ).loc main_arg0)
abbrev encs : Spec.Encs := m ((c : Thread nD τ).loc main_arg1)
abbrev ids : Spec.Ids := m ((c : Thread nD τ).loc main_arg2)

/-- The queries times minus two. -/
def scaled (x0 : Spec.Slots) : FVec Ideal S256x2048 .f32 :=
  mulf (shapeCast S256x2048 x0 shapeCasts_S32x8x2048_S256x2048) (broadcastInDim S256x2048 ![] bcast_S_S256x2048 (constant (F := Ideal) S_ .f32 0xC0000000#32))
/-- The squared norms of the queries. -/
def queryNorms (x0 : Spec.Slots) : FVec Ideal S16x256x1 .f32 :=
  shapeCast S16x256x1 (transpose S16x256 [1, 0] (Idealize.ShloMosaic.Host.reduceAdd
    (mulf (shapeCast S256x16x128 x0 shapeCasts_S32x8x2048_S256x16x128) (shapeCast S256x16x128 x0 shapeCasts_S32x8x2048_S256x16x128))
    (constant (F := Ideal) S_ .f32 0x00000000#32) reducesTo_S256x16x128_S256x16_d2 h_S_) transposes_S256x16_S16x256_1_0) shapeCasts_S16x256_S16x256x1
/-- The squared norms of the encodings. -/
def encNorms (x1 : Spec.Encs) : FVec Ideal S16x1x10000 .f32 :=
  shapeCast S16x1x10000 (Idealize.ShloMosaic.Host.reduceAdd (mulf x1 x1) (constant (F := Ideal) S_ .f32 0x00000000#32) reducesTo_S16x10000x128_S16x10000_d2 h_S_) shapeCasts_S16x10000_S16x1x10000
/-- The classes. -/
def idRows (x2 : Spec.Ids) : IVec S16x1x10000 32 := shapeCast S16x1x10000 x2 shapeCasts_S16x10000_S16x1x10000

theorem V_scaled : V m c main_v3 = scaled (slots m c) := by
  unfold V V0 hostOps0
  simp only [List.flatten_cons, List.flatten_nil, List.append_nil]
  after_results_simp
  rfl
theorem V_queryNorms : V m c main_v7 = queryNorms (slots m c) := by
  unfold V V0 hostOps0
  simp only [List.flatten_cons, List.flatten_nil, List.append_nil]
  after_results_simp
  rfl
theorem V_encNorms : V m c main_v11 = encNorms (encs m c) := by
  unfold V V0 hostOps0
  simp only [List.flatten_cons, List.flatten_nil, List.append_nil]
  after_results_simp
  rfl
theorem V_idRows : V m c main_v10 = idRows (ids m c) := by
  unfold V V0 hostOps0
  simp only [List.flatten_cons, List.flatten_nil, List.append_nil]
  after_results_simp
  rfl

/-- Minus twice a coordinate of a query. -/
theorem scaled_apply {x0 : Spec.Slots} {x1 : Spec.Encs} {x2 : Spec.Ids} (h : Spec.Ok x0 x1 x2) (b : Fin 16) (R : Fin 256) (e : Fin 128) (C : Fin 2048) (hC : C.val = b.val * 128 + e.val) :
    scaled x0 (ix2 R C) = (((-2) * Spec.query x0 b R e : ℝ) : EReal) := by
  have hR := R.isLt
  have e1 : shapeCast S256x2048 x0 shapeCasts_S32x8x2048_S256x2048 (ix2 R C) = ((Spec.query x0 b R e : ℝ) : EReal) := by
    refine (shapeCast_apply _ _ (ix2 R C) (Spec.place b R e) ?_).trans (h.slot b R e)
    rw [Shape.rowMajor_val_two, Shape.rowMajor_val_three]
    show (R.val / 8 * 8 + R.val % 8) * 2048 + (b.val * 128 + e.val) = R.val * 2048 + C.val
    omega
  have e2 : broadcastInDim S256x2048 ![] bcast_S_S256x2048 (constant (F := Ideal) S_ .f32 0xC0000000#32) (ix2 R C) = ((-2 : ℝ) : EReal) :=
    Read.ofBits_neg_two
  refine (congrArg₂ (· * ·) e1 e2).trans ?_
  show ((_ : ℝ) : EReal) * ((_ : ℝ) : EReal) = _
  rw [← EReal.coe_mul, mul_comm]

/-- The squared norm of a query. -/
theorem queryNorms_apply {x0 : Spec.Slots} {x1 : Spec.Encs} {x2 : Spec.Ids} (h : Spec.Ok x0 x1 x2) (b : Fin 16) (R : Fin 256) :
    queryNorms x0 (ix3 b R 0) = ((∑ e, Spec.query x0 b R e * Spec.query x0 b R e : ℝ) : EReal) := by
  have hR := R.isLt
  unfold queryNorms
  refine (shapeCast_apply _ _ (ix3 b R 0) (ix2 b R) ?_).trans ?_
  · rw [Shape.rowMajor_val_two, Shape.rowMajor_val_three]
    show b.val * 256 + R.val = (b.val * 256 + R.val) * 1 + 0
    omega
  refine (transpose_ix2_apply _ _ b R).trans ?_
  refine (Ideal.hostReduceAdd_single reducesTo_S256x16x128_S256x16_d2 (by decide : S256x16x128.Reduces [2] S256x16) _ _ (ix2 R b)).trans ?_
  refine (congrArg₂ (· + ·) Ideal.ofBits_zero_f32 ?_).trans (zero_add _)
  rw [Read.coe_sum]
  refine Finset.sum_congr rfl fun e _ => ?_
  have e1 : shapeCast S256x16x128 x0 shapeCasts_S32x8x2048_S256x16x128 (ix3 R b (e : Fin 128)) = ((Spec.query x0 b R e : ℝ) : EReal) := by
    refine (shapeCast_apply _ _ (ix3 R b (e : Fin 128)) (Spec.place b R e) ?_).trans (h.slot b R e)
    rw [Shape.rowMajor_val_three, Shape.rowMajor_val_three]
    have : ((e : Fin 128) : ℕ) < 128 := e.isLt
    have := b.isLt
    show (R.val / 8 * 8 + R.val % 8) * 2048 + (b.val * 128 + e.val) = (R.val * 16 + b.val) * 128 + e.val
    omega
  have hl : (by decide : S256x16x128.Reduces [2] S256x16).lift (ix2 R b) e = ix3 R b (e : Fin 128) := by
    funext ax; match ax with
    | ⟨0, _⟩ => rfl
    | ⟨1, _⟩ => rfl
    | ⟨2, _⟩ => rfl
  rw [EReal.coe_mul]
  exact congrArg₂ (· * ·) ((congrArg _ hl).trans e1) ((congrArg _ hl).trans e1)

/-- The squared norm of an encoding. -/
theorem encNorms_apply {x0 : Spec.Slots} {x1 : Spec.Encs} {x2 : Spec.Ids} (h : Spec.Ok x0 x1 x2) (b : Fin 16) (k : Fin 10000) :
    encNorms x1 (ix3 b 0 k) = ((∑ e, Spec.enc x1 b k e * Spec.enc x1 b k e : ℝ) : EReal) := by
  unfold encNorms
  refine (shapeCast_apply _ _ (ix3 b 0 k) (ix2 b k) ?_).trans ?_
  · rw [Shape.rowMajor_val_two, Shape.rowMajor_val_three]
    show b.val * 10000 + k.val = (b.val * 1 + 0) * 10000 + k.val
    omega
  refine (Ideal.hostReduceAdd_single reducesTo_S16x10000x128_S16x10000_d2 (by decide : S16x10000x128.Reduces [2] S16x10000) _ _ (ix2 b k)).trans ?_
  refine (congrArg₂ (· + ·) Ideal.ofBits_zero_f32 ?_).trans (zero_add _)
  rw [Read.coe_sum]
  refine Finset.sum_congr rfl fun e _ => ?_
  have hl : (by decide : S16x10000x128.Reduces [2] S16x10000).lift (ix2 b k) e = ix3 b k (e : Fin 128) := by
    funext ax; match ax with
    | ⟨0, _⟩ => rfl
    | ⟨1, _⟩ => rfl
    | ⟨2, _⟩ => rfl
  rw [EReal.coe_mul]
  exact congrArg₂ (· * ·) ((congrArg x1 hl).trans (h.enc b k e)) ((congrArg x1 hl).trans (h.enc b k e))

/-- The class of an encoding. -/
theorem idRows_apply (x2 : Spec.Ids) (b : Fin 16) (k : Fin 10000) : idRows x2 (ix3 b 0 k) = x2 (ix2 b k) := by
  refine shapeCast_apply _ _ (ix3 b 0 k) (ix2 b k) ?_
  rw [Shape.rowMajor_val_two, Shape.rowMajor_val_three]
  show b.val * 10000 + k.val = (b.val * 1 + 0) * 10000 + k.val
  omega

end Cert.KernelIdeal.Host

end
-- ==== Proof.KernelIdeal.Dist.lean ====
/- The squared distances of a block: what the body's first lines compute, read at an index. -/
module

public import proofs.«01_k».proof.Proof.KernelIdeal.Body
public import proofs.«01_k».proof.Proof.Read

@[expose] public section

noncomputable section

namespace Cert.KernelIdeal.Dist

open Cert.KernelIdeal Cert.KernelIdeal.Gen Cert.KernelIdeal.Body Idealize.ShloMosaic Idealize.ShloMosaic.ValueIdx

/-- The classes of a block, as a row. -/
theorem ids_apply (x2 : Vec Ideal S1x1x10000 .i32) (k : Fin 10000) : k0_pay14 (F := Ideal) x2 (ix2 0 k) = x2 (ix3 0 0 k) := by
  unfold k0_pay14
  exact shapeCast_1ab_ab_apply _ _ _ _

/-- The squared distance of query `r` and encoding `k`: the two squared norms and the product, cut off at zero. -/
theorem dist_apply (x0 : Vec Ideal S128x128 .f32) (x1 : Vec Ideal S1x10000x128 .f32) (x3 : Vec Ideal S1x128x1 .f32)
    (x4 : Vec Ideal S1x1x10000 .f32) (r : Fin 128) (k : Fin 10000) :
    k0_pay15 x0 x1 x3 x4 (ix2 r k)
      = max ((x3 (ix3 0 r 0) + x4 (ix3 0 0 k)) + ∑ e : Fin 128, x0 (ix2 r e) * x1 (ix3 0 k e)) (0 : EReal) := by
  unfold k0_pay15
  refine congrArg₂ max (congrArg₂ (· + ·) (congrArg₂ (· + ·) ?_ ?_) ?_) Ideal.ofBits_zero_f32
  · rw [Read.broadcastTo_a1_ab_apply]
    exact shapeCast_1ab_ab_apply _ _ _ _
  · rw [broadcastTo_1b_ab_apply]
    exact shapeCast_1ab_ab_apply _ _ _ _
  · refine (Ideal.matmul_transposedRhs_apply none _ _ _ r k).trans ?_
    rw [constant_apply, Ideal.ofBits_zero_f32, zero_add]
    refine Finset.sum_congr rfl fun e _ => ?_
    rw [shapeCast_self]
    exact congrArg (_ * ·) (shapeCast_1ab_ab_apply _ _ _ _)

/-- The squared distance of finite rows, as a real. -/
theorem dist_real (x0 : Vec Ideal S128x128 .f32) (x1 : Vec Ideal S1x10000x128 .f32) (x3 : Vec Ideal S1x128x1 .f32)
    (x4 : Vec Ideal S1x1x10000 .f32) (r : Fin 128) (k : Fin 10000) (u v : Fin 128 → ℝ)
    (h0 : ∀ e, x0 (ix2 r e) = (((-2) * u e : ℝ) : EReal)) (h1 : ∀ e, x1 (ix3 0 k e) = ((v e : ℝ) : EReal))
    (h3 : x3 (ix3 0 r 0) = ((∑ e, u e * u e : ℝ) : EReal)) (h4 : x4 (ix3 0 0 k) = ((∑ e, v e * v e : ℝ) : EReal)) :
    k0_pay15 x0 x1 x3 x4 (ix2 r k) = ((max (∑ e, u e * u e + ∑ e, v e * v e - 2 * ∑ e, u e * v e) 0 : ℝ) : EReal) := by
  rw [dist_apply, h3, h4, ← EReal.coe_add]
  have e : ∑ e : Fin 128, x0 (ix2 r e) * x1 (ix3 0 k e) = ((-(2 * ∑ e, u e * v e) : ℝ) : EReal) := by
    rw [Finset.mul_sum, ← Finset.sum_neg_distrib, Read.coe_sum]
    refine Finset.sum_congr rfl fun e _ => ?_
    rw [h0, h1, ← EReal.coe_mul]
    exact congrArg _ (by ring)
  rw [e, ← EReal.coe_add, ← sub_eq_add_neg, ← EReal.coe_zero, ← EReal.coe_strictMono.monotone.map_max]

end Cert.KernelIdeal.Dist

end
-- ==== Proof.KernelIdeal.Fast.lean ====
/- The fast branch: the counts within a threshold are the votes of the five nearest, whatever the threshold is, if the
   counts of each row add up to five. -/
module

public import proofs.«01_k».proof.Proof.KernelIdeal.Body
public import proofs.«01_k».proof.Proof.Read

@[expose] public section

noncomputable section

namespace Cert.KernelIdeal.Fast

open Cert.KernelIdeal Cert.KernelIdeal.Gen Cert.KernelIdeal.Body Idealize.ShloMosaic Idealize.ShloMosaic.ValueIdx

variable (ids : IVec S1x10000 32) (d2 : FVec Ideal S128x10000 .f32) (p q : FVec Ideal S128x1 .f32) (r : Fin 128)
  (id : Fin 10000 → Fin 32)

/-- The count of a class in a row: the number of the positions of that class that lie within the row's threshold. -/
theorem count_apply (hid : ∀ k, ids (ix2 0 k) = BitVec.ofNat 32 (id k).val) (c : Fin 32) :
    k0_pay323 ids d2 p q (ix2 r c)
      = (((Finset.univ.filter fun k => d2 (ix2 r k) ≤ k0_pay321 p q (ix2 r 0) ∧ id k = c).card : ℝ) : EReal) := by
  unfold k0_pay323
  refine (Ideal.matmul_transposedRhs_apply none _ _ _ r c).trans ?_
  rw [constant_apply, Ideal.ofBits_zero_f32, zero_add]
  refine Eq.trans (Finset.sum_congr rfl fun k _ => congrArg₂ (· * ·) ?_ ?_)
    (Read.sum_marks (fun k => d2 (ix2 r k) ≤ k0_pay321 p q (ix2 r 0)) (fun k => id k = c))
  · rw [ValueIdx.truncf_apply, sitofp_apply, extui_apply, cmpf_apply, Read.broadcastTo_a1_ab_apply, Ideal.cmpf_def, Read.cmp_ole]
    exact Read.sitofp_ite _
  · rw [ValueIdx.truncf_apply, sitofp_apply, extui_apply, cmpi_apply, Read.broadcastTo_a1_ab_apply, broadcastTo_1b_ab_apply,
      iota_single_apply, hid]
    refine (congrArg (fun b : BitVec 1 => (FloatOps.sitofp .f32 (b.setWidth 32) : Ideal .f32))
      (Read.cmpi_eq (BitVec.ofNat 32 (id k).val) (BitVec.ofNat 32 c.val))).trans ?_
    refine (Read.sitofp_ite _).trans ?_
    have hc := c.isLt
    have hi := (id k).isLt
    rw [if_congr ((Read.ofNat_inj (by omega) (by omega)).trans Fin.ext_iff.symm) rfl rfl]

/-- The sum of a row's counts is the number of the positions within the row's threshold. -/
theorem total_apply (hid : ∀ k, ids (ix2 0 k) = BitVec.ofNat 32 (id k).val) :
    k0_pay324 ids d2 p q (ix1 r) = (((Finset.univ.filter fun k => d2 (ix2 r k) ≤ k0_pay321 p q (ix2 r 0)).card : ℝ) : EReal) := by
  unfold k0_pay324
  refine (Ideal.multiReduction_add_single _ _ reduces_S128x32_S128 _ _ (ix1 r)).trans ?_
  have hl : ∀ c : Fin 32, reduces_S128x32_S128.lift (ix1 r) c = ix2 r c := fun c => by
    funext ax; match ax with
    | ⟨0, _⟩ => rfl
    | ⟨1, _⟩ => rfl
  refine (Finset.sum_congr rfl fun c _ => (congrArg (k0_pay323 ids d2 p q) (hl c)).trans (count_apply ids d2 p q r id hid c)).trans ?_
  refine (Read.coe_sum (Finset.univ : Finset (Fin 32)) _).symm.trans ?_
  rw [← Nat.cast_sum]
  refine congrArg (fun n : ℕ => ((n : ℝ) : EReal)) ?_
  rw [Finset.card_eq_sum_card_fiberwise (f := id) (t := Finset.univ) (fun _ _ => Finset.mem_coe.mpr (Finset.mem_univ _))]
  exact Finset.sum_congr rfl fun c _ => by rw [Finset.filter_filter]

/-- Where the block's test of the totals is passed, each row's total is five. -/
theorem total_of_ok (v : FVec Ideal S128 .f32) (h : (0 : EReal) < k0_pay325 v) : v (ix1 r) = ((5 : ℝ) : EReal) := by
  by_contra hne
  refine absurd h (not_lt.mpr ?_)
  unfold k0_pay325
  refine Read.min_le_term (dims := [1, 2]) _ reduces_S1x128x1_S1 (.inl rfl) rfl _ (ix3 0 r 0) ?_ _ ?_
  · funext ax
    match ax with
    | ⟨0, _⟩ => exact Subsingleton.elim (α := Fin 1) _ _
  · rw [shapeCast_ab_1ab_apply, select_apply, cmpf_apply, shapeCast_a_a1_apply, Ideal.cmpf_def, Read.cmp_oeq, Read.select_ite]
    rw [if_neg]
    · exact Ideal.ofBits_zero_f32.le
    · rw [broadcast_apply]
      exact fun e => hne (e.trans Read.ofBits_five)

/-- A test of two numbers against zero is passed only where the first is positive. -/
theorem pos_of_test (x y : Ideal .f32)
    (h : Scalar.cmpi .ne (Scalar.extui (Scalar.andi
      (Scalar.cmpf .ogt x (Scalar.ofBits .f32 0x00000000#32)) (Scalar.cmpf .ogt y (Scalar.ofBits .f32 0x00000000#32))) : BitVec 32) 0#32 = 1#1) :
    (0 : EReal) < x := by
  by_contra hne
  have e : Scalar.cmpf .ogt x (Scalar.ofBits .f32 0x00000000#32 : Ideal .f32) = 0#1 := by
    refine (Read.cmp_ogt x (Ideal.ofBits .f32 0x00000000#32)).trans ?_
    rw [Ideal.ofBits_zero_f32, if_neg hne]
  rw [e] at h
  have hz : ∀ b : BitVec 1, Scalar.cmpi .ne (Scalar.extui (Scalar.andi 0#1 b) : BitVec 32) 0#32 ≠ 1#1 := by decide
  exact hz _ h

/-- Where the fast branch is taken, each row's total is five. -/
theorem total_of_fastOk (h : fastOk ids d2 p q = 1#1) : k0_pay324 ids d2 p q (ix1 r) = ((5 : ℝ) : EReal) :=
  total_of_ok r _ (pos_of_test _ _ h)

/-- The counts of the fast branch are the votes of the five nearest. -/
theorem fast_apply (hid : ∀ k, ids (ix2 0 k) = BitVec.ofNat 32 (id k).val) (d : Fin 10000 → ℝ) (σ : Fin 5 → Fin 10000)
    (hd : ∀ k, d2 (ix2 r k) = ((d k : ℝ) : EReal)) (hσ : Vote.IsFirst d σ) (h : fastOk ids d2 p q = 1#1) (c : Fin 32) :
    k0_pay323 ids d2 p q (ix2 r c) = ((Vote.votes σ id c : ℝ) : EReal) := by
  rw [count_apply ids d2 p q r id hid]
  refine congrArg (fun n : ℕ => ((n : ℝ) : EReal)) ?_
  refine hσ.count_eq (fun k => d2 (ix2 r k) ≤ k0_pay321 p q (ix2 r 0)) (fun k l hle hk => ?_) ?_ id c
  · refine le_trans ?_ hk
    rw [hd, hd]
    exact EReal.coe_le_coe_iff.mpr hle
  · have e := (total_apply ids d2 p q r id hid).symm.trans (total_of_fastOk ids d2 p q r h)
    exact_mod_cast EReal.coe_eq_coe_iff.mp e

end Cert.KernelIdeal.Fast

end
-- ==== Proof.KernelIdeal.Slow.lean ====
/- The slow branch: five rounds, each of which takes the first of the nearest positions that are left. -/
module

public import proofs.«01_k».proof.Proof.KernelIdeal.Body
public import proofs.«01_k».proof.Proof.Read

@[expose] public section

noncomputable section

namespace Cert.KernelIdeal.Slow

open Cert.KernelIdeal Cert.KernelIdeal.Gen Cert.KernelIdeal.Body Idealize.ShloMosaic Idealize.ShloMosaic.ValueIdx

section rounds
variable {F : FTy → Type} [FloatOps F] [Named F]

/-- The least distance of each row. -/
def rowMin (dist : FVec F S128x10000 .f32) : FVec F S128 .f32 :=
  multiReduction .minimumf [1] S128 dist 0x7F800000#32 reduces_S128x10000_S128 (.inl rfl) rfl

/-- The packed word that a round takes in each row: the least among those of the positions at the least distance. -/
def pick (w : IVec S1x10000 32) (dist : FVec F S128x10000 .f32) : IVec S128x1 32 :=
  shapeCast S128x1 (multiReductionI .minsi [1] S128
    (select (cmpf .oeq dist (broadcastTo S128x10000 (shapeCast S128x1 (rowMin dist) shapeCasts_S128_S128x1) broadcasts_S128x1_S128x10000))
      (broadcastTo S128x10000 (shapeCast S1x10000 w shapeCasts_S1x10000_S1x10000) broadcasts_S1x10000_S128x10000)
      (broadcast S128x10000 1073741824#32))
    2147483647#32 reduces_S128x10000_S128 rfl) shapeCasts_S128_S128x1

/-- The distances that a round leaves: the position taken is put at infinity. -/
def mask (w : IVec S1x10000 32) (dist : FVec F S128x10000 .f32) : FVec F S128x10000 .f32 :=
  select (cmpi .eq (broadcastTo S128x10000 w broadcasts_S1x10000_S128x10000) (broadcastTo S128x10000 (pick w dist) broadcasts_S128x1_S128x10000))
    (broadcast S128x10000 inf) dist

/-- The vote of a round: a one at the class of the position taken. -/
def vote (w : IVec S1x10000 32) (dist : FVec F S128x10000 .f32) : FVec F S128x32 .f32 :=
  sitofp .f32 (extui 32 (cmpi .eq (broadcastTo S128x32 (andi (pick w dist) (broadcast S128x1 31#32)) broadcasts_S128x1_S128x32) classes) natLt_1_32)

/-- The distances before round `j`. -/
def left (w : IVec S1x10000 32) (dist : FVec F S128x10000 .f32) : ℕ → FVec F S128x10000 .f32
  | 0 => dist
  | j + 1 => mask w (left w dist j)

/-- The slow branch adds up the votes of five rounds. -/
theorem slow_eq (ids : IVec S1x10000 32) (d2 : FVec F S128x10000 .f32) :
    slow ids d2 = addf (addf (addf (addf (addf (broadcast S128x32 (Scalar.ofBits .f32 0x00000000#32))
      (vote (k0_pay326 ids) (left (k0_pay326 ids) (sqrt d2) 0))) (vote (k0_pay326 ids) (left (k0_pay326 ids) (sqrt d2) 1)))
      (vote (k0_pay326 ids) (left (k0_pay326 ids) (sqrt d2) 2))) (vote (k0_pay326 ids) (left (k0_pay326 ids) (sqrt d2) 3)))
      (vote (k0_pay326 ids) (left (k0_pay326 ids) (sqrt d2) 4)) := rfl

end rounds

/-- The index of row `r` with column `k` put in. -/
theorem lift_row (r : Fin 128) (k : Fin 10000) :
    reduces_S128x10000_S128.lift (ix1 r) k = ix2 r k := by
  funext c; match c with
  | ⟨0, _⟩ => rfl
  | ⟨1, _⟩ => rfl

/-- The least distance of a row, where it is known. -/
theorem rowMin_apply (dist : FVec Ideal S128x10000 .f32) (r : Fin 128) (k₀ : Fin 10000)
    (hle : ∀ k, dist (ix2 r k₀) ≤ dist (ix2 r k)) : rowMin dist (ix1 r) = dist (ix2 r k₀) :=
  (Read.min_single dist reduces_S128x10000_S128 _ _ (ix1 r) k₀ fun k =>
    (congrArg dist (lift_row r k₀)).trans_le ((hle k).trans_eq (congrArg dist (lift_row r k)).symm)).trans
    (congrArg dist (lift_row r k₀))

/-- The word that a round takes in a row: that of position `k₀`, if `k₀` is at the least distance and its word is the
    least of the words at that distance. -/
theorem pick_apply (w : IVec S1x10000 32) (dist : FVec Ideal S128x10000 .f32) (r : Fin 128) (k₀ : Fin 10000)
    (hle : ∀ k, dist (ix2 r k₀) ≤ dist (ix2 r k)) (hb : (w (ix2 0 k₀)).toInt ≤ 1073741824)
    (hw : ∀ k, dist (ix2 r k) = dist (ix2 r k₀) → (w (ix2 0 k₀)).toInt ≤ (w (ix2 0 k)).toInt) (o : Fin 1) :
    pick w dist (ix2 r o) = w (ix2 0 k₀) := by
  have hat : ∀ k, select (cmpf .oeq dist (broadcastTo S128x10000 (shapeCast S128x1 (rowMin dist) shapeCasts_S128_S128x1) broadcasts_S128x1_S128x10000))
      (broadcastTo S128x10000 (shapeCast S1x10000 w shapeCasts_S1x10000_S1x10000) broadcasts_S1x10000_S128x10000)
      (broadcast S128x10000 1073741824#32) (ix2 r k)
      = if dist (ix2 r k) = dist (ix2 r k₀) then w (ix2 0 k) else 1073741824#32 := by
    intro k
    rw [select_apply, cmpf_apply, Read.broadcastTo_a1_ab_apply, shapeCast_a_a1_apply, rowMin_apply dist r k₀ hle,
      broadcastTo_1b_ab_apply, shapeCast_self, broadcast_apply, Ideal.cmpf_def]
    simp only [Ideal.cmp]
    by_cases e : dist (ix2 r k) = dist (ix2 r k₀)
    · rw [if_pos e]; simp [e, Scalar.select]
    · rw [if_neg e]; simp [e, Scalar.select]
  unfold pick
  rw [shapeCast_a_a1_apply]
  refine (Read.minsi_single _ reduces_S128x10000_S128 _ (ix1 r) k₀ fun k => ?_).trans ?_
  · refine le_of_eq_of_le (congrArg BitVec.toInt ((congrArg _ (lift_row r k₀)).trans (hat k₀)))
      (le_of_le_of_eq ?_ (congrArg BitVec.toInt ((congrArg _ (lift_row r k)).trans (hat k))).symm)
    rw [if_pos rfl]
    split
    · rename_i e; exact hw k e
    · exact hb
  · rw [lift_row, hat, if_pos rfl]

section row
variable (ids : IVec S1x10000 32) (d2 : FVec Ideal S128x10000 .f32) (r : Fin 128)
  (id : Fin 10000 → Fin 32) (hid : ∀ k, ids (ix2 0 k) = BitVec.ofNat 32 (id k).val)

/-- The packed word of a position: its number and its class. -/
theorem pack_apply (hid : ∀ k, ids (ix2 0 k) = BitVec.ofNat 32 (id k).val) (k : Fin 10000) :
    k0_pay326 ids (ix2 0 k) = BitVec.ofNat 32 (32 * k.val + (id k).val) := by
  refine Eq.trans (?_ : _ = IntOp.ori (IntOp.shli .vector (BitVec.ofNat 32 k.val) 5#32) (ids (ix2 0 k))) ?_
  · unfold k0_pay326
    rw [ori_apply, shli_apply, iota_single_apply, broadcast_apply]
  · rw [hid, Read.pack (by have := k.isLt; omega) (id k).isLt]

/-- The packed word as a signed number. -/
theorem pack_toInt (hid : ∀ k, ids (ix2 0 k) = BitVec.ofNat 32 (id k).val) (k : Fin 10000) :
    (k0_pay326 ids (ix2 0 k)).toInt = 32 * (k.val : ℤ) + ((id k).val : ℤ) := by
  have h1 := k.isLt
  have h2 := (id k).isLt
  rw [pack_apply ids id hid, BitVec.toInt_eq_toNat_of_lt (by rw [BitVec.toNat_ofNat]; omega), BitVec.toNat_ofNat]
  omega

/-- The low five bits of the packed word are the class. -/
theorem pack_and (hid : ∀ k, ids (ix2 0 k) = BitVec.ofNat 32 (id k).val) (k : Fin 10000) :
    IntOp.andi (k0_pay326 ids (ix2 0 k)) 31#32 = BitVec.ofNat 32 (id k).val := by
  rw [pack_apply ids id hid, Read.unpack (by have := k.isLt; omega) (id k).isLt]

/-- Different positions have different packed words. -/
theorem pack_inj (hid : ∀ k, ids (ix2 0 k) = BitVec.ofNat 32 (id k).val) (k l : Fin 10000) :
    k0_pay326 ids (ix2 0 k) = k0_pay326 ids (ix2 0 l) ↔ k = l := by
  refine ⟨fun h => ?_, fun h => by rw [h]⟩
  have := congrArg BitVec.toInt h
  rw [pack_toInt ids id hid, pack_toInt ids id hid] at this
  have h1 := (id k).isLt
  have h2 := (id l).isLt
  exact Fin.ext (by omega)

variable (d : Fin 10000 → ℝ) (σ : Fin 5 → Fin 10000)

/-- The word taken in round `j`, from the distances that are left. -/
theorem pick_left (hid : ∀ k, ids (ix2 0 k) = BitVec.ofNat 32 (id k).val) (h0 : ∀ k, 0 ≤ d k) (hσ : Vote.IsFirst d σ) (dist : FVec Ideal S128x10000 .f32) (j : Fin 5)
    (hl : ∀ k, dist (ix2 r k) = if Vote.rank d k < j.val then (⊤ : EReal) else ((√(d k) : ℝ) : EReal)) (o : Fin 1) :
    pick (k0_pay326 ids) dist (ix2 r o) = k0_pay326 ids (ix2 0 (σ j)) := by
  have hj : dist (ix2 r (σ j)) = ((√(d (σ j)) : ℝ) : EReal) := by rw [hl, if_neg (by rw [hσ j]; omega)]
  have h2 := (id (σ j)).isLt
  have h1 := (σ j).isLt
  refine pick_apply _ _ r (σ j) (fun k => ?_) ?_ (fun k e => ?_) o
  · rw [hj, hl k]
    split
    · exact le_top
    · rename_i hk; exact EReal.coe_le_coe_iff.mpr (Real.sqrt_le_sqrt (hσ.le j hk))
  · rw [pack_toInt ids id hid]; omega
  · rw [hj, hl k] at e
    split at e
    · exact absurd e (EReal.coe_ne_top _).symm
    · rename_i hk
      have e' : d k = d (σ j) := (Real.sqrt_inj (h0 _) (h0 _)).mp (EReal.coe_eq_coe_iff.mp e)
      have hle : (σ j).val ≤ k.val := hσ.le_of_eq j hk e'
      rw [pack_toInt ids id hid, pack_toInt ids id hid]
      rcases Nat.lt_or_ge (σ j).val k.val with h | h
      · omega
      · rw [show k = σ j from Fin.ext (by omega)]

/-- What is left after `j` rounds: the `j` first positions are at infinity. -/
theorem left_apply (hid : ∀ k, ids (ix2 0 k) = BitVec.ofNat 32 (id k).val) (hd : ∀ k, d2 (ix2 r k) = ((d k : ℝ) : EReal)) (h0 : ∀ k, 0 ≤ d k)
    (hσ : Vote.IsFirst d σ) (j : ℕ) (hj : j ≤ 5) (k : Fin 10000) :
    left (k0_pay326 ids) (sqrt d2) j (ix2 r k) = if Vote.rank d k < j then (⊤ : EReal) else ((√(d k) : ℝ) : EReal) := by
  induction j generalizing k with
  | zero =>
    rw [if_neg (by omega)]
    show Ideal.sqrt (d2 (ix2 r k)) = _
    rw [hd, Ideal.sqrt_coe, if_neg (not_lt.mpr (h0 k))]
  | succ j ih =>
    have hp := pick_left ids r id d σ hid h0 hσ (left (k0_pay326 ids) (sqrt d2) j) ⟨j, by omega⟩ (fun k => ih (by omega) k) 0
    show mask _ _ _ = _
    unfold mask
    rw [select_apply, broadcast_apply, cmpi_apply, broadcastTo_1b_ab_apply, Read.broadcastTo_a1_ab_apply, hp, ih (by omega), Read.cmpi_eq,
      Read.select_ite]
    have hr : Vote.rank d k = j ↔ k = σ ⟨j, by omega⟩ := by
      constructor
      · intro h; exact Vote.rank_injective d (by rw [h, hσ])
      · rintro rfl; exact hσ _
    by_cases e : k = σ ⟨j, by omega⟩
    · have hlt : Vote.rank d k < j + 1 := by rw [hr.mpr e]; exact Nat.lt_succ_self j
      rw [if_pos hlt, if_pos ((pack_inj ids id hid _ _).mpr e)]
      exact Read.ofBits_inf
    · rw [if_neg fun h => e ((pack_inj ids id hid _ _).mp h)]
      have hne : ¬ Vote.rank d k = j := fun h => e (hr.mp h)
      by_cases hlt : Vote.rank d k < j
      · have hlt' : Vote.rank d k < j + 1 := Nat.lt_succ_of_lt hlt
        rw [if_pos hlt, if_pos hlt']
      · have hlt' : ¬ Vote.rank d k < j + 1 := by omega
        rw [if_neg hlt, if_neg hlt']

/-- The vote of round `j`. -/
theorem vote_apply (hid : ∀ k, ids (ix2 0 k) = BitVec.ofNat 32 (id k).val) (hd : ∀ k, d2 (ix2 r k) = ((d k : ℝ) : EReal)) (h0 : ∀ k, 0 ≤ d k)
    (hσ : Vote.IsFirst d σ) (j : Fin 5) (c : Fin 32) :
    vote (k0_pay326 ids) (left (k0_pay326 ids) (sqrt d2) j.val) (ix2 r c) = (((if id (σ j) = c then 1 else 0 : ℕ) : ℝ) : EReal) := by
  have hp := pick_left ids r id d σ hid h0 hσ (left (k0_pay326 ids) (sqrt d2) j.val) j
    (fun k => left_apply ids d2 r id d σ hid hd h0 hσ j.val (by omega) k) 0
  unfold vote
  rw [sitofp_apply, extui_apply, cmpi_apply, Read.broadcastTo_a1_ab_apply, andi_apply, broadcast_apply, hp, pack_and ids id hid, classes, iota_single_apply]
  refine (congrArg (fun b : BitVec 1 => (FloatOps.sitofp .f32 (b.setWidth 32) : Ideal .f32))
    ((Read.cmpi_eq (BitVec.ofNat 32 (id (σ j)).val) (BitVec.ofNat 32 c.val)))).trans ?_
  refine (Read.sitofp_ite _).trans ?_
  have hc := c.isLt
  have hi := (id (σ j)).isLt
  rw [if_congr ((Read.ofNat_inj (by omega) (by omega)).trans Fin.ext_iff.symm) rfl rfl]

/-- The counts of the slow branch are the votes of the five nearest. -/
theorem slow_apply (hid : ∀ k, ids (ix2 0 k) = BitVec.ofNat 32 (id k).val) (hd : ∀ k, d2 (ix2 r k) = ((d k : ℝ) : EReal)) (h0 : ∀ k, 0 ≤ d k)
    (hσ : Vote.IsFirst d σ) (c : Fin 32) : slow ids d2 (ix2 r c) = ((Vote.votes σ id c : ℝ) : EReal) := by
  have hv := fun j : Fin 5 => vote_apply ids d2 r id d σ hid hd h0 hσ j c
  have e0 := hv 0
  have e1 := hv 1
  have e2 := hv 2
  have e3 := hv 3
  have e4 := hv 4
  rw [slow_eq]
  refine (congrArg₂ (· + ·) (congrArg₂ (· + ·) (congrArg₂ (· + ·) (congrArg₂ (· + ·) (congrArg₂ (· + ·)
    Ideal.ofBits_zero_f32 e0) e1) e2) e3) e4).trans ?_
  show ((((((0 : EReal) + _) + _) + _) + _) + _ : EReal) = _
  rw [zero_add, ← EReal.coe_add, ← EReal.coe_add, ← EReal.coe_add, ← EReal.coe_add]
  refine congrArg _ ?_
  unfold Vote.votes
  rw [Finset.card_filter, Fin.sum_univ_five]
  push_cast
  rfl

end row

end Cert.KernelIdeal.Slow

end
-- ==== Proof.KernelIdeal.Outs.lean ====
/- What one block computes: the counts of both branches are the votes of the five nearest, and the two outputs of a
   block are the first class of most votes and its share. -/
module

public import proofs.«01_k».proof.Proof.KernelIdeal.Dist
public import proofs.«01_k».proof.Proof.KernelIdeal.Fast
public import proofs.«01_k».proof.Proof.KernelIdeal.Slow

@[expose] public section

noncomputable section

namespace Cert.KernelIdeal.Outs

open Cert.KernelIdeal Cert.KernelIdeal.Gen Cert.KernelIdeal.Body Idealize.ShloMosaic Idealize.ShloMosaic.ValueIdx

/-- The counts of a block are the votes of the five nearest, on whichever branch they are found. -/
theorem counts_apply (ids : IVec S1x10000 32) (d2 : FVec Ideal S128x10000 .f32) (p q : FVec Ideal S128x1 .f32) (r : Fin 128)
    (id : Fin 10000 → Fin 32) (hid : ∀ k, ids (ix2 0 k) = BitVec.ofNat 32 (id k).val) (d : Fin 10000 → ℝ)
    (σ : Fin 5 → Fin 10000) (hd : ∀ k, d2 (ix2 r k) = ((d k : ℝ) : EReal)) (h0 : ∀ k, 0 ≤ d k) (hσ : Vote.IsFirst d σ) (c : Fin 32) :
    counts ids d2 p q (ix2 r c) = ((Vote.votes σ id c : ℝ) : EReal) := by
  by_cases h : fastOk ids d2 p q = 1#1
  · exact (congrFun (if_pos h) (ix2 r c)).trans (Fast.fast_apply ids d2 p q r id hid d σ hd hσ h c)
  · exact (congrFun (if_neg h) (ix2 r c)).trans (Slow.slow_apply ids d2 r id d σ hid hd h0 hσ c)

section outs
variable (v : FVec Ideal S128x32 .f32) (r : Fin 128) (n : Fin 32 → ℕ) (c₀ : Fin 32)

/-- The index of row `r` with class `c` put in. -/
theorem lift_class (c : Fin 32) : reduces_S128x32_S128.lift (ix1 r) c = ix2 r c := by
  funext ax; match ax with
  | ⟨0, _⟩ => rfl
  | ⟨1, _⟩ => rfl

/-- The most votes of a row. -/
theorem most_apply (hv : ∀ c, v (ix2 r c) = ((n c : ℝ) : EReal)) (hc : Vote.IsMode n c₀) (o : Fin 1) :
    k0_pay328 v (ix2 r o) = ((n c₀ : ℝ) : EReal) := by
  unfold k0_pay328
  rw [shapeCast_a_a1_apply]
  refine (Read.max_single v reduces_S128x32_S128 (.inl rfl) rfl (ix1 r) c₀ fun c => ?_).trans
    ((congrArg v (lift_class r c₀)).trans (hv c₀))
  refine le_of_eq_of_le ((congrArg v (lift_class r c)).trans (hv c)) (le_of_le_of_eq ?_ ((congrArg v (lift_class r c₀)).trans (hv c₀)).symm)
  exact EReal.coe_le_coe_iff.mpr (Nat.cast_le.mpr (hc.1 c))

/-- A row put into a block of one row of an output. -/
theorem row_apply (w : FVec Ideal S128 .f32) : shapeCast S1x1x1x128 w shapeCasts_S128_S1x1x1x128 (ix4 0 0 0 r) = w (ix1 r) :=
  shapeCast_apply _ _ _ _ (by
    rw [Shape.rowMajor_val_one, Shape.rowMajor_val_four]
    show r.val = ((0 * 1 + 0) * 1 + 0) * 128 + r.val
    omega)

/-- The first output of a block: the first class of most votes. -/
theorem code_apply (hv : ∀ c, v (ix2 r c) = ((n c : ℝ) : EReal)) (hc : Vote.IsMode n c₀) :
    k0_pay329 v (ix4 0 0 0 r) = ((c₀.val : ℝ) : EReal) := by
  have hat : ∀ c : Fin 32, select (cmpf .oeq v (broadcastTo S128x32 (k0_pay328 v) broadcasts_S128x1_S128x32)) (iota .tc S128x32 32 [1] iota_S128x32_d1_w32)
      (broadcast S128x32 32#32) (ix2 r c) = if n c = n c₀ then BitVec.ofNat 32 c.val else 32#32 := by
    intro c
    rw [select_apply, cmpf_apply, Read.broadcastTo_a1_ab_apply, most_apply v r n c₀ hv hc, hv, iota_single_apply, broadcast_apply,
      Ideal.cmpf_def, Read.cmp_oeq, Read.select_ite]
    refine if_congr ⟨fun h => ?_, fun h => by rw [h]⟩ rfl rfl
    exact Nat.cast_injective (EReal.coe_eq_coe_iff.mp h)
  unfold k0_pay329
  refine (row_apply r _).trans ?_
  rw [sitofp_apply]
  have hm := Read.minsi_single (select (cmpf .oeq v (broadcastTo S128x32 (k0_pay328 v) broadcasts_S128x1_S128x32)) (iota .tc S128x32 32 [1] iota_S128x32_d1_w32)
      (broadcast S128x32 32#32)) reduces_S128x32_S128 rfl (ix1 r) c₀ fun c => by
    refine le_of_eq_of_le (congrArg BitVec.toInt ((congrArg _ (lift_class r c₀)).trans (hat c₀)))
      (le_of_le_of_eq ?_ (congrArg BitVec.toInt ((congrArg _ (lift_class r c)).trans (hat c))).symm)
    have h₀ := c₀.isLt
    rw [if_pos rfl, Read.toInt_ofNat (by omega)]
    split
    · rename_i e
      have h1 : c₀.val ≤ c.val := hc.2 c e
      have h2 : c.val < 32 := c.isLt
      rw [Read.toInt_ofNat (by omega)]
      exact_mod_cast h1
    · have e32 : (32#32 : BitVec 32).toInt = 32 := by decide
      rw [e32]; omega
  have e := hm.trans ((congrArg _ (lift_class r c₀)).trans ((hat c₀).trans (if_pos rfl)))
  refine (congrArg (fun b : BitVec 32 => (FloatOps.sitofp .f32 b : Ideal .f32)) e).trans ?_
  show (((BitVec.ofNat 32 c₀.val).toInt : ℝ) : EReal) = _
  rw [Read.toInt_ofNat (by have := c₀.isLt; omega)]
  norm_cast

/-- The second output of a block: a fifth of the most votes. -/
theorem share_apply (hv : ∀ c, v (ix2 r c) = ((n c : ℝ) : EReal)) (hc : Vote.IsMode n c₀) :
    k0_pay330 v (ix4 0 0 0 r) = (((n c₀ : ℝ) * (1 / 5) : ℝ) : EReal) := by
  unfold k0_pay330
  refine (row_apply r _).trans ?_
  rw [EReal.coe_mul]
  refine congrArg₂ (· * ·) ?_ (IdealRules.named_const.ideal_named_scalar κ "fifth" _ _ rfl)
  refine (shapeCast_apply _ _ (ix1 r) (ix2 r 0) (by
    rw [Shape.rowMajor_val_one, Shape.rowMajor_val_two]
    show r.val * 1 + 0 = r.val
    omega)).trans (most_apply v r n c₀ hv hc 0)

end outs

end Cert.KernelIdeal.Outs

end
-- ==== Proof.KernelIdeal.Result.lean ====
/- What the kernel returns: the arrays that the launch leaves hold the first class of most votes and its share of every
   query, and the lines after the launch lay them out by slot, head and block. -/
module

public import proofs.«01_k».proof.Proof.KernelIdeal.Host
public import proofs.«01_k».proof.Proof.KernelIdeal.Outs
public import proofs.«01_k».proof.Proof.KernelIdeal.Run
public import Idealize.ShloMosaic.Lib.Pipeline.ValueKit

@[expose] public section

set_option maxRecDepth 16384

noncomputable section

namespace Cert.KernelIdeal.Result

open Cert.KernelIdeal Cert.KernelIdeal.Gen Cert.KernelIdeal.Run Cert.KernelIdeal.Host Idealize.ShloMosaic.ValueIdx
open Idealize.ShloMosaic hiding ix0 ix1 ix2 ix3 ix4 ix5
open Idealize.ShloMosaic.TcCoe Idealize.SL.Sem Idealize.ShloMosaic.StableHlo

/-- The query of row `r` of half `h`. -/
def row (h : Fin 2) (r : Fin 128) : Fin 256 := ⟨h.val * 128 + r.val, by have := h.isLt; have := r.isLt; omega⟩

/-- The counts of a block whose row `r` is query `R` of block `b`. -/
theorem counts_row {x0 : Spec.Slots} {x1 : Spec.Encs} {x2 : Spec.Ids} (h : Spec.Ok x0 x1 x2) (b : Fin 16) (R : Fin 256) (r : Fin 128)
    (y0 : Vec Ideal S128x128 .f32) (y1 : Vec Ideal S1x10000x128 .f32) (y2 : Vec Ideal S1x1x10000 .i32) (y3 : Vec Ideal S1x128x1 .f32)
    (y4 : Vec Ideal S1x1x10000 .f32) (h0 : ∀ e, y0 (ix2 r e) = (((-2) * Spec.query x0 b R e : ℝ) : EReal))
    (h1 : ∀ k e, y1 (ix3 0 k e) = x1 (ix3 b k e)) (h2 : ∀ k, y2 (ix3 0 0 k) = x2 (ix2 b k))
    (h3 : y3 (ix3 0 r 0) = ((∑ e, Spec.query x0 b R e * Spec.query x0 b R e : ℝ) : EReal))
    (h4 : ∀ k, y4 (ix3 0 0 k) = ((∑ e, Spec.enc x1 b k e * Spec.enc x1 b k e : ℝ) : EReal)) (c : Fin 32) :
    Body.blockCounts y0 y1 y2 y3 y4 (ix2 r c) = ((Spec.votes x0 x1 x2 b R c : ℝ) : EReal) :=
  Outs.counts_apply _ _ _ _ r (Spec.cls x2 b) (fun k => (Dist.ids_apply y2 k).trans ((h2 k).trans (h.word b k)))
    (Spec.dist x0 x1 b R) (Spec.nearest x0 x1 b R)
    (fun k => Dist.dist_real y0 y1 y3 y4 r k (Spec.query x0 b R) (Spec.enc x1 b k) h0 (fun e => (h1 k e).trans (h.enc b k e)) h3 (h4 k))
    (Spec.dist_nonneg x0 x1 b R) (Spec.nearest_isFirst x0 x1 b R) c

variable (m : (ℓ : Loc nD τ sig) → Buf (Elt Ideal) ℓ) (c : Dev nD)

/-- The step `t` works on block `t / 2` and half `t % 2`. -/
theorem e0 : ∀ t : Fin cfg0.N, win0_0.index t = ![(grid0.coords t 1).val, (grid0.coords t 0).val] := (by decide +kernel : ∀ t : Fin grid0.N, _)
theorem e1 : ∀ t : Fin cfg0.N, win0_1.index t = ![(grid0.coords t 0).val, 0, 0] := (by decide +kernel : ∀ t : Fin grid0.N, _)
theorem e2 : ∀ t : Fin cfg0.N, win0_2.index t = ![(grid0.coords t 0).val, 0, 0] := (by decide +kernel : ∀ t : Fin grid0.N, _)
theorem e3 : ∀ t : Fin cfg0.N, win0_3.index t = ![(grid0.coords t 0).val, (grid0.coords t 1).val, 0] := (by decide +kernel : ∀ t : Fin grid0.N, _)
theorem e4 : ∀ t : Fin cfg0.N, win0_4.index t = ![(grid0.coords t 0).val, 0, 0] := (by decide +kernel : ∀ t : Fin grid0.N, _)
theorem e5 : ∀ t : Fin cfg0.N, win0_5.index t = ![(grid0.coords t 0).val, (grid0.coords t 1).val, 0, 0] := (by decide +kernel : ∀ t : Fin grid0.N, _)
theorem e6 : ∀ t : Fin cfg0.N, win0_6.index t = ![(grid0.coords t 0).val, (grid0.coords t 1).val, 0, 0] := (by decide +kernel : ∀ t : Fin grid0.N, _)

/-- The block and the half of a step. -/
abbrev blockOf (t : Fin cfg0.N) : Fin 16 := grid0.coords t 0
abbrev halfOf (t : Fin cfg0.N) : Fin 2 := grid0.coords t 1

/-- A step's queries times minus two. -/
theorem iblk0_apply (t : Fin cfg0.N) (r e : Fin 128) (C : Fin 2048) (hC : C.val = (blockOf t).val * 128 + e.val) :
    (iblk m c 0 t : Vec Ideal S128x128 .f32) (ix2 r e) = scaled (slots m c) (ix2 (row (halfOf t) r) C) := by
  blk_simp [iblk]
  refine (congrFun (V_scaled m c) _).trans (congrArg _ ?_)
  blk_ext [e0]
  · rfl
  · exact hC.symm

/-- A step's encodings. -/
theorem iblk1_apply (t : Fin cfg0.N) (k : Fin 10000) (e : Fin 128) :
    (iblk m c 1 t : Vec Ideal S1x10000x128 .f32) (ix3 0 k e) = encs m c (ix3 (blockOf t) k e) := by
  blk_simp [iblk]
  refine (congrFun (V_main_arg1 m c) _).trans (congrArg (encs m c) ?_)
  blk_ext [e1]

/-- A step's classes. -/
theorem iblk2_apply (t : Fin cfg0.N) (k : Fin 10000) :
    (iblk m c 2 t : Vec Ideal S1x1x10000 .i32) (ix3 0 0 k) = ids m c (ix2 (blockOf t) k) := by
  blk_simp [iblk]
  refine (congrFun (V_idRows m c) _).trans ((congrArg (idRows (ids m c)) ?_).trans (idRows_apply (ids m c) (blockOf t) k))
  blk_ext [e2]

/-- A step's squared norms of the queries. -/
theorem iblk3_apply (t : Fin cfg0.N) (r : Fin 128) :
    (iblk m c 3 t : Vec Ideal S1x128x1 .f32) (ix3 0 r 0) = queryNorms (slots m c) (ix3 (blockOf t) (row (halfOf t) r) 0) := by
  blk_simp [iblk]
  refine (congrFun (V_queryNorms m c) _).trans (congrArg _ ?_)
  blk_ext [e3]
  all_goals rfl

/-- A step's squared norms of the encodings. -/
theorem iblk4_apply (t : Fin cfg0.N) (k : Fin 10000) :
    (iblk m c 4 t : Vec Ideal S1x1x10000 .f32) (ix3 0 0 k) = encNorms (encs m c) (ix3 (blockOf t) 0 k) := by
  blk_simp [iblk]
  refine (congrFun (V_encNorms m c) _).trans (congrArg _ ?_)
  blk_ext [e4]

/-- The counts of a step: row `r` holds the votes of its query. -/
theorem counts_step (h : Spec.Ok (slots m c) (encs m c) (ids m c)) (t : Fin cfg0.N) (r : Fin 128) (k : Fin 32) :
    Body.blockCounts (iblk m c 0 t : Vec Ideal S128x128 .f32) (iblk m c 1 t : Vec Ideal S1x10000x128 .f32) (iblk m c 2 t : Vec Ideal S1x1x10000 .i32)
      (iblk m c 3 t : Vec Ideal S1x128x1 .f32) (iblk m c 4 t : Vec Ideal S1x1x10000 .f32) (ix2 r k)
      = ((Spec.votes (slots m c) (encs m c) (ids m c) (blockOf t) (row (halfOf t) r) k : ℝ) : EReal) :=
  counts_row h (blockOf t) (row (halfOf t) r) r _ _ _ _ _
    (fun e => (iblk0_apply m c t r e ⟨(blockOf t).val * 128 + e.val, by have := (blockOf t).isLt; have := e.isLt; omega⟩ rfl).trans
      (scaled_apply h _ _ e _ rfl))
    (iblk1_apply m c t) (iblk2_apply m c t) ((iblk3_apply m c t r).trans (queryNorms_apply h _ _))
    (fun k => (iblk4_apply m c t k).trans (encNorms_apply h _ k)) k

/-- An array of results by block, half and row. -/
def halves (G : Fin 16 → Fin 256 → EReal) : FVec Ideal S16x2x1x128 .f32 := fun i => G (i 0) (row (i 1) (i 3))

/-- An index of a block of one row of an output is its row. -/
theorem exists_row (y : S1x1x1x128.Idx) : ∃ r : Fin 128, y = ix4 0 0 0 r :=
  ⟨y 3, funext fun ax => match ax with
    | ⟨0, _⟩ => Fin.ext (Nat.lt_one_iff.mp (y 0).isLt)
    | ⟨1, _⟩ => Fin.ext (Nat.lt_one_iff.mp (y 1).isLt)
    | ⟨2, _⟩ => Fin.ext (Nat.lt_one_iff.mp (y 2).isLt)
    | ⟨3, _⟩ => rfl⟩

/-- The first output of a step, at row `r`. -/
theorem code_step (h : Spec.Ok (slots m c) (encs m c) (ids m c)) (t : Fin cfg0.N) (y : S1x1x1x128.Idx) (r : Fin 128) (hy : y = ix4 0 0 0 r) :
    k0_pay329 (Body.blockCounts (iblk m c 0 t : Vec Ideal S128x128 .f32) (iblk m c 1 t : Vec Ideal S1x10000x128 .f32) (iblk m c 2 t : Vec Ideal S1x1x10000 .i32)
      (iblk m c 3 t : Vec Ideal S1x128x1 .f32) (iblk m c 4 t : Vec Ideal S1x1x10000 .f32)) y
      = halves (Spec.code (slots m c) (encs m c) (ids m c)) (ix4 (blockOf t) (halfOf t) 0 r) := by
  rw [hy]
  exact Outs.code_apply _ r _ _ (counts_step m c h t r) (Spec.mode_isMode _ _ _ _ _)

/-- The first array that the launch leaves. -/
theorem codes_arr (h : Spec.Ok (slots m c) (encs m c) (ids m c)) :
    (dats m 0 c).arrAt 5 cfg0.N = halves (Spec.code (slots m c) (encs m c) (ids m c)) := by
  refine (dats m 0 c).arrAt_eq_of_covers 5 _ (by decide +kernel) fun t hf y => ?_
  blk_simp
  rw [after0_5]
  frame_out
  obtain ⟨r, hr⟩ := exists_row y
  refine (code_step m c h t y r hr).trans (congrArg (halves _) ?_)
  subst hr
  blk_ext [e5]

/-- The second output of a step, at row `r`. -/
theorem share_step (h : Spec.Ok (slots m c) (encs m c) (ids m c)) (t : Fin cfg0.N) (y : S1x1x1x128.Idx) (r : Fin 128) (hy : y = ix4 0 0 0 r) :
    k0_pay330 (Body.blockCounts (iblk m c 0 t : Vec Ideal S128x128 .f32) (iblk m c 1 t : Vec Ideal S1x10000x128 .f32) (iblk m c 2 t : Vec Ideal S1x1x10000 .i32)
      (iblk m c 3 t : Vec Ideal S1x128x1 .f32) (iblk m c 4 t : Vec Ideal S1x1x10000 .f32)) y
      = halves (Spec.share (slots m c) (encs m c) (ids m c)) (ix4 (blockOf t) (halfOf t) 0 r) := by
  rw [hy]
  exact Outs.share_apply _ r _ _ (counts_step m c h t r) (Spec.mode_isMode _ _ _ _ _)

/-- The second array that the launch leaves. -/
theorem shares_arr (h : Spec.Ok (slots m c) (encs m c) (ids m c)) :
    (dats m 0 c).arrAt 6 cfg0.N = halves (Spec.share (slots m c) (encs m c) (ids m c)) := by
  refine (dats m 0 c).arrAt_eq_of_covers 6 _ (by decide +kernel) fun t hf y => ?_
  blk_simp
  rw [after0_6]
  frame_out
  obtain ⟨r, hr⟩ := exists_row y
  refine (share_step m c h t y r hr).trans (congrArg (halves _) ?_)
  subst hr
  blk_ext [e6]

/-- The lines after the launch lay an array of results out. -/
theorem laid_halves (G : Fin 16 → Fin 256 → EReal) :
    shapeCast S32x8x16 (transpose S256x16 [1, 0] (shapeCast S16x256 (halves G) shapeCasts_S16x2x1x128_S16x256) transposes_S16x256_S256x16_1_0) shapeCasts_S256x16_S32x8x16
      = Spec.laid G := by
  refine Spec.laid_eq _ G (fun b R => ?_) _ _
  have hR := R.isLt
  refine (shapeCast_apply _ _ (ix2 b R) (ix4 b (⟨R.val / 128, by omega⟩ : Fin 2) 0 (⟨R.val % 128, by omega⟩ : Fin 128)) ?_).trans ?_
  · rw [Shape.rowMajor_val_two, Shape.rowMajor_val_four]
    show ((b.val * 2 + R.val / 128) * 1 + 0) * 128 + R.val % 128 = b.val * 256 + R.val
    omega
  · refine congrArg (G b) (Fin.ext ?_)
    show R.val / 128 * 128 + R.val % 128 = R.val
    omega

/-- The windows' arrays are distinct buffers. -/
theorem arrays_injective : Function.Injective (Pipeline.arrRef spec0) := by decide

/-- The first result after the last line. -/
theorem tail_codes (h : Spec.Ok (slots m c) (encs m c) (ids m c)) :
    Pipeline.afterTail₀ cfgs (dats m) 0 (V0 m) [hostOps1] c main_v15 = Spec.laid (Spec.code (slots m c) (encs m c) (ids m c)) := by
  unfold Pipeline.afterTail₀
  unfold hostOps1
  simp only [List.flatten_cons, List.flatten_nil, List.append_nil]
  after_results_simp
  exact (congrArg (fun g : FVec Ideal S16x2x1x128 .f32 => shapeCast S32x8x16 (transpose S256x16 [1, 0] (shapeCast S16x256 g shapeCasts_S16x2x1x128_S16x256) transposes_S16x256_S256x16_1_0) shapeCasts_S256x16_S32x8x16)
    ((Pipeline.withArrays_arr spec0 arrays_injective c (V0 m c) (fun w => (dats m 0 c).arrAt w cfg0.N) 5).trans (codes_arr m c h))).trans (laid_halves _)

/-- The second result after the last line. -/
theorem tail_shares (h : Spec.Ok (slots m c) (encs m c) (ids m c)) :
    Pipeline.afterTail₀ cfgs (dats m) 0 (V0 m) [hostOps1] c main_v18 = Spec.laid (Spec.share (slots m c) (encs m c) (ids m c)) := by
  unfold Pipeline.afterTail₀
  unfold hostOps1
  simp only [List.flatten_cons, List.flatten_nil, List.append_nil]
  after_results_simp
  exact (congrArg (fun g : FVec Ideal S16x2x1x128 .f32 => shapeCast S32x8x16 (transpose S256x16 [1, 0] (shapeCast S16x256 g shapeCasts_S16x2x1x128_S16x256) transposes_S16x256_S256x16_1_0) shapeCasts_S256x16_S32x8x16)
    ((Pipeline.withArrays_arr spec0 arrays_injective c (V0 m c) (fun w => (dats m 0 c).arrAt w cfg0.N) 6).trans (shares_arr m c h))).trans (laid_halves _)

/-- Every execution of the kernel on real numbers and classes below 32 ends with the first class of most votes and its
    share of every query, and with the arguments as they began. -/
theorem run (ρ : Dev nD → PrngReg) (h : ∀ c, Spec.Ok (slots m c) (encs m c) (ids m c)) :
    θ_run (defs (F := Ideal)) (onTc (τ := τ) (main (F := Ideal))) ⟨m, fun _ => 0, ρ⟩ (fun r => ∀ c : Dev nD,
      r.2.mem ((c.tc : Thread nD τ).loc main_v15) = Spec.laid (Spec.code (slots m c) (encs m c) (ids m c))
      ∧ r.2.mem ((c.tc : Thread nD τ).loc main_v18) = Spec.laid (Spec.share (slots m c) (encs m c) (ids m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r hr c => ⟨(hr.1.rest_eq c main_v15 (by decide)).trans (tail_codes m c (h c)),
    (hr.1.rest_eq c main_v18 (by decide)).trans (tail_shares m c (h c)), hr.2 c⟩) (θ_run_and (run_main m ρ) (unchanged m ρ))

end Cert.KernelIdeal.Result

end
-- ==== Proof.ReferenceIdeal.Run.lean ====
/- The run of the reference: @main is a list of host operations, and every execution ends with each result at a pure
   function of the arguments, the arguments as they began and every counter at zero. The function is given in stages. -/
module

public import proofs.«01_k».proof.Proof.Gen.ReferenceIdeal
public import Idealize.ShloMosaic.Lib.StableHlo.Run

@[expose] public section

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- The queries: one row of 128 numbers for each book and each slot. -/
def queries (x0 : FVec F S32x8x2048 .f32) : FVec F S16x256x128 .f32 :=
  transpose S16x256x128 [1, 0, 2] (shapeCast S256x16x128 x0 shapeCasts_S32x8x2048_S256x16x128) transposes_S256x16x128_S16x256x128_1_0_2

/-- The sum of squares of each query. -/
def queryNorms (x0 : FVec F S32x8x2048 .f32) : FVec F S16x256 .f32 :=
  Host.reduceAdd (mulf (queries x0) (queries x0)) (constant S_ .f32 0x00000000#32) reducesTo_S16x256x128_S16x256_d2 h_S_

/-- The sum of squares of each encoding. -/
def encNorms (x1 : FVec F S16x10000x128 .f32) : FVec F S16x10000 .f32 :=
  Host.reduceAdd (mulf x1 x1) (constant S_ .f32 0x00000000#32) reducesTo_S16x10000x128_S16x10000_d2 h_S_

/-- The product of each query with each encoding. -/
def products (x0 : FVec F S32x8x2048 .f32) (x1 : FVec F S16x10000x128 .f32) : FVec F S16x256x10000 .f32 :=
  Host.dotGeneral dot_S16x256x128_S16x10000x128_S16x256x10000_2_2_1_1_0_0 none (queries x0) x1

/-- The squared distance of each query to each encoding, not below zero. -/
def sqDists (x0 : FVec F S32x8x2048 .f32) (x1 : FVec F S16x10000x128 .f32) : FVec F S16x256x10000 .f32 :=
  maximumf (subf
    (addf (broadcastInDim S16x256x10000 ![0, 1, 2] bcast_S16x256x1_S16x256x10000_0_1_2 (broadcastInDim S16x256x1 ![0, 1] bcast_S16x256_S16x256x1_0_1 (queryNorms x0)))
      (broadcastInDim S16x256x10000 ![0, 1, 2] bcast_S16x1x10000_S16x256x10000_0_1_2 (broadcastInDim S16x1x10000 ![0, 2] bcast_S16x10000_S16x1x10000_0_2 (encNorms x1))))
    (mulf (broadcastInDim S16x256x10000 ![] bcast_S_S16x256x10000 (constant S_ .f32 0x40000000#32)) (products x0 x1)))
    (broadcastInDim S16x256x10000 ![] bcast_S_S16x256x10000 (constant S_ .f32 0x00000000#32))

/-- The positions of the five nearest encodings of each query. -/
def nearest (d : FVec F S16x256x10000 .f32) : IVec S16x256x5 32 :=
  (Host.topK S16x256x5 2 (FloatOps.cmpfTotal .gt) (Host.negf (Host.sqrt d)) sliceFits_S16x256x10000_S16x256x5).2

/-- The ids of the book's encodings, one copy for each query. -/
def idsOf (x2 : IVec S16x10000 32) : IVec S16x256x10000 32 :=
  broadcastInDim S16x256x10000 ![0, 1, 2] bcast_S16x1x10000_S16x256x10000_0_1_2 (broadcastInDim S16x1x10000 ![0, 2] bcast_S16x10000_S16x1x10000_0_2 x2)

/-- The positions, one taken from the end where it is negative, as start indices. -/
def starts (p : IVec S16x256x5 32) : IVec S16x256x5x1 32 :=
  shapeCast S16x256x5x1 (select (cmpi .slt p (broadcastInDim S16x256x5 ![] bcast_S_S16x256x5 (constantI S_ 32 0#32)))
    (addi p (broadcastInDim S16x256x5 ![] bcast_S_S16x256x5 (constantI S_ 32 10000#32))) p) shapeCasts_S16x256x5_S16x256x5x1

/-- Whether each start index lies in the array. -/
def inRange (s : IVec S16x256x5x1 32) : IVec S16x256x5 1 :=
  Host.reduce IntOp.andi
    (andi (cmpi .sge s (broadcastInDim S16x256x5x1 ![] bcast_S_S16x256x5x1 (constantI S_ 32 0#32)))
      (cmpi .sle s (broadcastInDim S16x256x5x1 ![0, 1, 2, 3] bcast_S1x1x1x1_S16x256x5x1_0_1_2_3 (broadcastInDim S1x1x1x1 ![3] bcast_S1_S1x1x1x1_3 (constantI S1 32 9999#32)))))
    (constantI S_ 1 1#1) reducesTo_S16x256x5x1_S16x256x5_d3 h_S_

/-- The ids found at the positions `p`. -/
def idsAt (x : IVec S16x256x10000 32) (p : IVec S16x256x5 32) : IVec S16x256x5 32 :=
  select (inRange (starts p)) (Host.gather gather_S16x256x10000_S16x256x5x1_S16x256x5_n_2_01_01_2_3_111 x (starts p))
    (broadcastInDim S16x256x5 ![] bcast_S_S16x256x5 (constantI S_ 32 2147483648#32))

/-- A one at each id's class, a zero elsewhere. -/
def oneHot (v : IVec S16x256x5 32) : FVec F S16x256x5x32 .f32 :=
  uitofp .f32 (cmpi .eq
    (broadcastInDim S16x256x5x32 ![0, 1, 2, 3] bcast_S16x256x5x1_S16x256x5x32_0_1_2_3 (broadcastInDim S16x256x5x1 ![0, 1, 2] bcast_S16x256x5_S16x256x5x1_0_1_2 v))
    (broadcastInDim S16x256x5x32 ![0, 1, 2, 3] bcast_S1x1x1x32_S16x256x5x32_0_1_2_3 (iotaInDim S1x1x1x32 32 3)))

/-- How often each class occurs among the five ids. -/
def countsOf (v : IVec S16x256x5 32) : FVec F S16x256x32 .f32 :=
  Host.reduceAdd (oneHot v) (constant S_ .f32 0x00000000#32) reducesTo_S16x256x5x32_S16x256x32_d2 h_S_

/-- The counts of the reference, from the arguments. -/
def counts (x0 : FVec F S32x8x2048 .f32) (x1 : FVec F S16x10000x128 .f32) (x2 : IVec S16x10000 32) : FVec F S16x256x32 .f32 :=
  countsOf (idsAt (idsOf x2) (nearest (sqDists x0 x1)))

/-- The first class of largest count. -/
def argmaxOf (n : FVec F S16x256x32 .f32) : IVec S16x256 32 := fun j =>
  (Host.argReduce reducer_argmax_f32_i32 n (iotaInDim S16x256x32 32 2) (constant S_ .f32 0xFF800000#32) (constantI S_ 32 0#32) reducesTo_S16x256x32_S16x256_d2 h_S_ j).2

/-- The first result: the class, as a number. -/
def codes (n : FVec F S16x256x32 .f32) : FVec F S32x8x16 .f32 :=
  shapeCast S32x8x16 (transpose S256x16 [1, 0] (sitofp .f32 (argmaxOf n)) transposes_S16x256_S256x16_1_0) shapeCasts_S256x16_S32x8x16

/-- The largest count over five. -/
def shares (n : FVec F S16x256x32 .f32) : FVec F S16x256 .f32 :=
  Host.divf (Host.reduce FloatOps.maximumf n (constant S_ .f32 0xFF800000#32) reducesTo_S16x256x32_S16x256_d2 h_S_)
    (broadcastInDim S16x256 ![] bcast_S_S16x256 (constant S_ .f32 0x40A00000#32))

/-- The second result: the share of the five that is of that class. -/
def probs (n : FVec F S16x256x32 .f32) : FVec F S32x8x16 .f32 :=
  shapeCast S32x8x16 (transpose S256x16 [1, 0] (shares n) transposes_S16x256_S256x16_1_0) shapeCasts_S256x16_S32x8x16

/-- @main's operations, in order (a called function's operations stand in its call's place). -/
abbrev ops : List (HloOp τ sig (Elt F)) :=
  [ reshape main_arg0 main_v0 (rfl : (.f32 : EltTy) = .f32) shapeCasts_S32x8x2048_S256x16x128,
    unary main_v0 main_v1 ((transpose S16x256x128 [1, 0, 2] · transposes_S256x16x128_S16x256x128_1_0_2) : (⟨S256x16x128, .f32⟩ : BufTy).Contents (Elt F) → (⟨S16x256x128, .f32⟩ : BufTy).Contents (Elt F)),
    binary main_v1 main_v1 main_v2 (mulf : (⟨S16x256x128, .f32⟩ : BufTy).Contents (Elt F) → (⟨S16x256x128, .f32⟩ : BufTy).Contents (Elt F) → (⟨S16x256x128, .f32⟩ : BufTy).Contents (Elt F)),
    nullary main_cst (constant S_ .f32 0x00000000#32),
    binary main_v2 main_cst main_v3 ((fun x v => Host.reduceAdd x v reducesTo_S16x256x128_S16x256_d2 h_S_) : (⟨S16x256x128, .f32⟩ : BufTy).Contents (Elt F) → (⟨S_, .f32⟩ : BufTy).Contents (Elt F) → (⟨S16x256, .f32⟩ : BufTy).Contents (Elt F)),
    unary main_v3 main_v4 (broadcastInDim S16x256x1 ![0, 1] bcast_S16x256_S16x256x1_0_1 : (⟨S16x256, .f32⟩ : BufTy).Contents (Elt F) → (⟨S16x256x1, .f32⟩ : BufTy).Contents (Elt F)),
    binary main_arg1 main_arg1 main_v5 (mulf : (⟨S16x10000x128, .f32⟩ : BufTy).Contents (Elt F) → (⟨S16x10000x128, .f32⟩ : BufTy).Contents (Elt F) → (⟨S16x10000x128, .f32⟩ : BufTy).Contents (Elt F)),
    nullary main_cst_0 (constant S_ .f32 0x00000000#32),
    binary main_v5 main_cst_0 main_v6 ((fun x v => Host.reduceAdd x v reducesTo_S16x10000x128_S16x10000_d2 h_S_) : (⟨S16x10000x128, .f32⟩ : BufTy).Contents (Elt F) → (⟨S_, .f32⟩ : BufTy).Contents (Elt F) → (⟨S16x10000, .f32⟩ : BufTy).Contents (Elt F)),
    binary main_v1 main_arg1 main_v7 ((fun l r => Host.dotGeneral dot_S16x256x128_S16x10000x128_S16x256x10000_2_2_1_1_0_0 none l r) : (⟨S16x256x128, .f32⟩ : BufTy).Contents (Elt F) → (⟨S16x10000x128, .f32⟩ : BufTy).Contents (Elt F) → (⟨S16x256x10000, .f32⟩ : BufTy).Contents (Elt F)),
    unary main_v6 main_v8 (broadcastInDim S16x1x10000 ![0, 2] bcast_S16x10000_S16x1x10000_0_2 : (⟨S16x10000, .f32⟩ : BufTy).Contents (Elt F) → (⟨S16x1x10000, .f32⟩ : BufTy).Contents (Elt F)),
    unary main_v4 main_v9 (broadcastInDim S16x256x10000 ![0, 1, 2] bcast_S16x256x1_S16x256x10000_0_1_2 : (⟨S16x256x1, .f32⟩ : BufTy).Contents (Elt F) → (⟨S16x256x10000, .f32⟩ : BufTy).Contents (Elt F)),
    unary main_v8 main_v10 (broadcastInDim S16x256x10000 ![0, 1, 2] bcast_S16x1x10000_S16x256x10000_0_1_2 : (⟨S16x1x10000, .f32⟩ : BufTy).Contents (Elt F) → (⟨S16x256x10000, .f32⟩ : BufTy).Contents (Elt F)),
    binary main_v9 main_v10 main_v11 (addf : (⟨S16x256x10000, .f32⟩ : BufTy).Contents (Elt F) → (⟨S16x256x10000, .f32⟩ : BufTy).Contents (Elt F) → (⟨S16x256x10000, .f32⟩ : BufTy).Contents (Elt F)),
    nullary main_cst_1 (constant S_ .f32 0x40000000#32),
    unary main_cst_1 main_v12 (broadcastInDim S16x256x10000 ![] bcast_S_S16x256x10000 : (⟨S_, .f32⟩ : BufTy).Contents (Elt F) → (⟨S16x256x10000, .f32⟩ : BufTy).Contents (Elt F)),
    binary main_v12 main_v7 main_v13 (mulf : (⟨S16x256x10000, .f32⟩ : BufTy).Contents (Elt F) → (⟨S16x256x10000, .f32⟩ : BufTy).Contents (Elt F) → (⟨S16x256x10000, .f32⟩ : BufTy).Contents (Elt F)),
    binary main_v11 main_v13 main_v14 (subf : (⟨S16x256x10000, .f32⟩ : BufTy).Contents (Elt F) → (⟨S16x256x10000, .f32⟩ : BufTy).Contents (Elt F) → (⟨S16x256x10000, .f32⟩ : BufTy).Contents (Elt F)),
    nullary main_cst_2 (constant S_ .f32 0x00000000#32),
    unary main_cst_2 main_v15 (broadcastInDim S16x256x10000 ![] bcast_S_S16x256x10000 : (⟨S_, .f32⟩ : BufTy).Contents (Elt F) → (⟨S16x256x10000, .f32⟩ : BufTy).Contents (Elt F)),
    binary main_v14 main_v15 main_v16 (maximumf : (⟨S16x256x10000, .f32⟩ : BufTy).Contents (Elt F) → (⟨S16x256x10000, .f32⟩ : BufTy).Contents (Elt F) → (⟨S16x256x10000, .f32⟩ : BufTy).Contents (Elt F)),
    unary main_v16 main_v17 (Host.sqrt : (⟨S16x256x10000, .f32⟩ : BufTy).Contents (Elt F) → (⟨S16x256x10000, .f32⟩ : BufTy).Contents (Elt F)),
    unary main_v17 main_v18 (Host.negf : (⟨S16x256x10000, .f32⟩ : BufTy).Contents (Elt F) → (⟨S16x256x10000, .f32⟩ : BufTy).Contents (Elt F)),
    unary main_v18 main_values ((fun x => (Host.topK S16x256x5 2 (FloatOps.cmpfTotal .gt) x sliceFits_S16x256x10000_S16x256x5).1) : (⟨S16x256x10000, .f32⟩ : BufTy).Contents (Elt F) → (⟨S16x256x5, .f32⟩ : BufTy).Contents (Elt F)),
    unary main_v18 main_indices ((fun x => (Host.topK S16x256x5 2 (FloatOps.cmpfTotal .gt) x sliceFits_S16x256x10000_S16x256x5).2) : (⟨S16x256x10000, .f32⟩ : BufTy).Contents (Elt F) → (⟨S16x256x5, .i32⟩ : BufTy).Contents (Elt F)),
    unary main_arg2 main_v19 (broadcastInDim S16x1x10000 ![0, 2] bcast_S16x10000_S16x1x10000_0_2 : (⟨S16x10000, .i32⟩ : BufTy).Contents (Elt F) → (⟨S16x1x10000, .i32⟩ : BufTy).Contents (Elt F)),
    unary main_v19 main_v20 (broadcastInDim S16x256x10000 ![0, 1, 2] bcast_S16x1x10000_S16x256x10000_0_1_2 : (⟨S16x1x10000, .i32⟩ : BufTy).Contents (Elt F) → (⟨S16x256x10000, .i32⟩ : BufTy).Contents (Elt F)),
    TRef.nullary (TRef.of (T := ⟨S_, .i32⟩) main_call0_c) (constantI S_ 32 0#32),
    TRef.unary (TRef.of (T := ⟨S_, .i32⟩) main_call0_c) (TRef.of (T := ⟨S16x256x5, .i32⟩) main_call0_v0) (broadcastInDim S16x256x5 ![] bcast_S_S16x256x5),
    TRef.binary (TRef.of (T := ⟨S16x256x5, .i32⟩) main_indices) (TRef.of (T := ⟨S16x256x5, .i32⟩) main_call0_v0) (TRef.of (T := ⟨S16x256x5, .i1⟩) main_call0_v1) (cmpi .slt),
    TRef.nullary (TRef.of (T := ⟨S_, .i32⟩) main_call0_c_0) (constantI S_ 32 10000#32),
    TRef.unary (TRef.of (T := ⟨S_, .i32⟩) main_call0_c_0) (TRef.of (T := ⟨S16x256x5, .i32⟩) main_call0_v2) (broadcastInDim S16x256x5 ![] bcast_S_S16x256x5),
    TRef.binary (TRef.of (T := ⟨S16x256x5, .i32⟩) main_indices) (TRef.of (T := ⟨S16x256x5, .i32⟩) main_call0_v2) (TRef.of (T := ⟨S16x256x5, .i32⟩) main_call0_v3) addi,
    TRef.ternary (TRef.of (T := ⟨S16x256x5, .i1⟩) main_call0_v1) (TRef.of (T := ⟨S16x256x5, .i32⟩) main_call0_v3) (TRef.of (T := ⟨S16x256x5, .i32⟩) main_indices) (TRef.of (T := ⟨S16x256x5, .i32⟩) main_call0_v4) select,
    TRef.reshape (TRef.of (T := ⟨S16x256x5, .i32⟩) main_call0_v4) (TRef.of (T := ⟨S16x256x5x1, .i32⟩) main_call0_v5) (rfl : (.i32 : EltTy) = .i32) shapeCasts_S16x256x5_S16x256x5x1,
    TRef.nullary (TRef.of (T := ⟨S1, .i32⟩) main_call0_c_1) (constantI S1 32 9999#32),
    TRef.nullary (TRef.of (T := ⟨S_, .i32⟩) main_call0_c_2) (constantI S_ 32 0#32),
    TRef.unary (TRef.of (T := ⟨S_, .i32⟩) main_call0_c_2) (TRef.of (T := ⟨S16x256x5x1, .i32⟩) main_call0_v6) (broadcastInDim S16x256x5x1 ![] bcast_S_S16x256x5x1),
    TRef.binary (TRef.of (T := ⟨S16x256x5x1, .i32⟩) main_call0_v5) (TRef.of (T := ⟨S16x256x5x1, .i32⟩) main_call0_v6) (TRef.of (T := ⟨S16x256x5x1, .i1⟩) main_call0_v7) (cmpi .sge),
    TRef.unary (TRef.of (T := ⟨S1, .i32⟩) main_call0_c_1) (TRef.of (T := ⟨S1x1x1x1, .i32⟩) main_call0_v8) (broadcastInDim S1x1x1x1 ![3] bcast_S1_S1x1x1x1_3),
    TRef.unary (TRef.of (T := ⟨S1x1x1x1, .i32⟩) main_call0_v8) (TRef.of (T := ⟨S16x256x5x1, .i32⟩) main_call0_v9) (broadcastInDim S16x256x5x1 ![0, 1, 2, 3] bcast_S1x1x1x1_S16x256x5x1_0_1_2_3),
    TRef.binary (TRef.of (T := ⟨S16x256x5x1, .i32⟩) main_call0_v5) (TRef.of (T := ⟨S16x256x5x1, .i32⟩) main_call0_v9) (TRef.of (T := ⟨S16x256x5x1, .i1⟩) main_call0_v10) (cmpi .sle),
    TRef.binary (TRef.of (T := ⟨S16x256x5x1, .i1⟩) main_call0_v7) (TRef.of (T := ⟨S16x256x5x1, .i1⟩) main_call0_v10) (TRef.of (T := ⟨S16x256x5x1, .i1⟩) main_call0_v11) andi,
    TRef.nullary (TRef.of (T := ⟨S_, .i1⟩) main_call0_c_3) (constantI S_ 1 1#1),
    TRef.binary (TRef.of (T := ⟨S16x256x5x1, .i1⟩) main_call0_v11) (TRef.of (T := ⟨S_, .i1⟩) main_call0_c_3) (TRef.of (T := ⟨S16x256x5, .i1⟩) main_call0_v12) (fun x v => Host.reduce IntOp.andi x v reducesTo_S16x256x5x1_S16x256x5_d3 h_S_),
    TRef.binary (TRef.of (T := ⟨S16x256x10000, .i32⟩) main_v20) (TRef.of (T := ⟨S16x256x5x1, .i32⟩) main_call0_v5) (TRef.of (T := ⟨S16x256x5, .i32⟩) main_call0_v13) (fun x i => Host.gather gather_S16x256x10000_S16x256x5x1_S16x256x5_n_2_01_01_2_3_111 x i),
    TRef.nullary (TRef.of (T := ⟨S_, .i32⟩) main_call0_c_4) (constantI S_ 32 2147483648#32),
    TRef.unary (TRef.of (T := ⟨S_, .i32⟩) main_call0_c_4) (TRef.of (T := ⟨S16x256x5, .i32⟩) main_call0_v14) (broadcastInDim S16x256x5 ![] bcast_S_S16x256x5),
    TRef.ternary (TRef.of (T := ⟨S16x256x5, .i1⟩) main_call0_v12) (TRef.of (T := ⟨S16x256x5, .i32⟩) main_call0_v13) (TRef.of (T := ⟨S16x256x5, .i32⟩) main_call0_v14) (TRef.of (T := ⟨S16x256x5, .i32⟩) main_v21) select,
    TRef.unary (TRef.of (T := ⟨S16x256x5, .i32⟩) main_v21) (TRef.of (T := ⟨S16x256x5x1, .i32⟩) main_call1_v0) (broadcastInDim S16x256x5x1 ![0, 1, 2] bcast_S16x256x5_S16x256x5x1_0_1_2),
    TRef.nullary (TRef.of (T := ⟨S1x1x1x32, .i32⟩) main_call1_v1) (iotaInDim S1x1x1x32 32 3),
    TRef.unary (TRef.of (T := ⟨S16x256x5x1, .i32⟩) main_call1_v0) (TRef.of (T := ⟨S16x256x5x32, .i32⟩) main_call1_v2) (broadcastInDim S16x256x5x32 ![0, 1, 2, 3] bcast_S16x256x5x1_S16x256x5x32_0_1_2_3),
    TRef.unary (TRef.of (T := ⟨S1x1x1x32, .i32⟩) main_call1_v1) (TRef.of (T := ⟨S16x256x5x32, .i32⟩) main_call1_v3) (broadcastInDim S16x256x5x32 ![0, 1, 2, 3] bcast_S1x1x1x32_S16x256x5x32_0_1_2_3),
    TRef.binary (TRef.of (T := ⟨S16x256x5x32, .i32⟩) main_call1_v2) (TRef.of (T := ⟨S16x256x5x32, .i32⟩) main_call1_v3) (TRef.of (T := ⟨S16x256x5x32, .i1⟩) main_call1_v4) (cmpi .eq),
    TRef.unary (TRef.of (T := ⟨S16x256x5x32, .i1⟩) main_call1_v4) (TRef.of (T := ⟨S16x256x5x32, .f32⟩) main_v22) (uitofp .f32),
    nullary main_cst_3 (constant S_ .f32 0x00000000#32),
    binary main_v22 main_cst_3 main_v23 ((fun x v => Host.reduceAdd x v reducesTo_S16x256x5x32_S16x256x32_d2 h_S_) : (⟨S16x256x5x32, .f32⟩ : BufTy).Contents (Elt F) → (⟨S_, .f32⟩ : BufTy).Contents (Elt F) → (⟨S16x256x32, .f32⟩ : BufTy).Contents (Elt F)),
    TRef.nullary (TRef.of (T := ⟨S16x256x32, .i32⟩) main_call2_v0) (iotaInDim S16x256x32 32 2),
    TRef.nullary (TRef.of (T := ⟨S_, .f32⟩) main_call2_cst) (constant S_ .f32 0xFF800000#32),
    TRef.nullary (TRef.of (T := ⟨S_, .i32⟩) main_call2_c) (constantI S_ 32 0#32),
    TRef.quaternary (TRef.of (T := ⟨S16x256x32, .f32⟩) main_v23) (TRef.of (T := ⟨S16x256x32, .i32⟩) main_call2_v0) (TRef.of (T := ⟨S_, .f32⟩) main_call2_cst) (TRef.of (T := ⟨S_, .i32⟩) main_call2_c) (TRef.of (T := ⟨S16x256, .f32⟩) main_call2_v1_0) (fun x y u v j => (Host.argReduce reducer_argmax_f32_i32 x y u v reducesTo_S16x256x32_S16x256_d2 h_S_ j).1),
    TRef.quaternary (TRef.of (T := ⟨S16x256x32, .f32⟩) main_v23) (TRef.of (T := ⟨S16x256x32, .i32⟩) main_call2_v0) (TRef.of (T := ⟨S_, .f32⟩) main_call2_cst) (TRef.of (T := ⟨S_, .i32⟩) main_call2_c) (TRef.of (T := ⟨S16x256, .i32⟩) main_v24) (fun x y u v j => (Host.argReduce reducer_argmax_f32_i32 x y u v reducesTo_S16x256x32_S16x256_d2 h_S_ j).2),
    nullary main_cst_4 (constant S_ .f32 0xFF800000#32),
    binary main_v23 main_cst_4 main_v25 ((fun x v => Host.reduce FloatOps.maximumf x v reducesTo_S16x256x32_S16x256_d2 h_S_) : (⟨S16x256x32, .f32⟩ : BufTy).Contents (Elt F) → (⟨S_, .f32⟩ : BufTy).Contents (Elt F) → (⟨S16x256, .f32⟩ : BufTy).Contents (Elt F)),
    nullary main_cst_5 (constant S_ .f32 0x40A00000#32),
    unary main_cst_5 main_v26 (broadcastInDim S16x256 ![] bcast_S_S16x256 : (⟨S_, .f32⟩ : BufTy).Contents (Elt F) → (⟨S16x256, .f32⟩ : BufTy).Contents (Elt F)),
    binary main_v25 main_v26 main_v27 (Host.divf : (⟨S16x256, .f32⟩ : BufTy).Contents (Elt F) → (⟨S16x256, .f32⟩ : BufTy).Contents (Elt F) → (⟨S16x256, .f32⟩ : BufTy).Contents (Elt F)),
    unary main_v24 main_v28 (sitofp .f32 : (⟨S16x256, .i32⟩ : BufTy).Contents (Elt F) → (⟨S16x256, .f32⟩ : BufTy).Contents (Elt F)),
    unary main_v28 main_v29 ((transpose S256x16 [1, 0] · transposes_S16x256_S256x16_1_0) : (⟨S16x256, .f32⟩ : BufTy).Contents (Elt F) → (⟨S256x16, .f32⟩ : BufTy).Contents (Elt F)),
    reshape main_v29 main_v30 (rfl : (.f32 : EltTy) = .f32) shapeCasts_S256x16_S32x8x16,
    unary main_v27 main_v31 ((transpose S256x16 [1, 0] · transposes_S16x256_S256x16_1_0) : (⟨S16x256, .f32⟩ : BufTy).Contents (Elt F) → (⟨S256x16, .f32⟩ : BufTy).Contents (Elt F)),
    reshape main_v31 main_v32 (rfl : (.f32 : EltTy) = .f32) shapeCasts_S256x16_S32x8x16 ]

set_option maxRecDepth 8192 in
set_option maxHeartbeats 4000000 in
/-- @main runs these operations. -/
theorem main_eq (c : Dev nD) : main (F := F) c = seq ops := rfl
/-- No buffer is scoped. -/
theorem scopedRefs_eq : (Finset.univ.filter fun b : Ref sig .tc => b.isScoped) = ∅ := by decide
/-- No semaphore is scoped. -/
theorem scopedSems_eq : (Finset.univ.filter fun sm : SemLoc sig => sm.isScoped .tc) = ∅ := by decide
set_option maxRecDepth 8192 in
/-- Every operation works on buffers of the core. -/
theorem ops_sub : (ops : List (HloOp τ sig (Elt F))).Forall fun op => op.bufs ⊆ tcRefs τ sig :=
  ⟨reshape_bufs_sub .., unary_bufs_sub .., binary_bufs_sub .., nullary_bufs_sub .., binary_bufs_sub .., unary_bufs_sub .., binary_bufs_sub .., nullary_bufs_sub .., binary_bufs_sub .., binary_bufs_sub .., unary_bufs_sub .., unary_bufs_sub .., unary_bufs_sub .., binary_bufs_sub .., nullary_bufs_sub .., unary_bufs_sub .., binary_bufs_sub .., binary_bufs_sub .., nullary_bufs_sub .., unary_bufs_sub .., binary_bufs_sub .., unary_bufs_sub .., unary_bufs_sub .., unary_bufs_sub .., unary_bufs_sub .., unary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., unary_bufs_sub .., nullary_bufs_sub .., unary_bufs_sub .., unary_bufs_sub .., binary_bufs_sub .., unary_bufs_sub .., nullary_bufs_sub .., binary_bufs_sub .., nullary_bufs_sub .., nullary_bufs_sub .., nullary_bufs_sub .., quaternary_bufs_sub .., quaternary_bufs_sub .., nullary_bufs_sub .., binary_bufs_sub .., nullary_bufs_sub .., unary_bufs_sub .., binary_bufs_sub .., unary_bufs_sub .., unary_bufs_sub .., reshape_bufs_sub .., unary_bufs_sub .., reshape_bufs_sub ..⟩

section
variable (m : (ℓ : Loc nD τ sig) → Buf (Elt F) ℓ) (c : Dev nD)

set_option maxRecDepth 8192 in
set_option maxHeartbeats 31600000 in
/-- What the operations leave in the counts' buffer. -/
theorem after_counts : after ops (fun b => m (c, b)) (Proc.devRef .tc main_v23)
    = counts (m ((c.tc : Thread nD τ).loc main_arg0)) (m ((c.tc : Thread nD τ).loc main_arg1)) (m ((c.tc : Thread nD τ).loc main_arg2)) := by
  simp only [ops, TRef.binary, TRef.nullary, TRef.reshape, TRef.ternary, TRef.quaternary, TRef.unary, TRef.toBuf, TRef.ofBuf, cast_eq]; after_results_simp <;> rfl

set_option maxRecDepth 8192 in
set_option maxHeartbeats 31600000 in
/-- What the operations leave in the first result. -/
theorem after_codes : after ops (fun b => m (c, b)) (Proc.devRef .tc main_v30)
    = codes (counts (m ((c.tc : Thread nD τ).loc main_arg0)) (m ((c.tc : Thread nD τ).loc main_arg1)) (m ((c.tc : Thread nD τ).loc main_arg2))) := by
  simp only [ops, TRef.binary, TRef.nullary, TRef.reshape, TRef.ternary, TRef.quaternary, TRef.unary, TRef.toBuf, TRef.ofBuf, cast_eq]; after_results_simp <;> rfl

set_option maxRecDepth 8192 in
set_option maxHeartbeats 31600000 in
/-- What the operations leave in the second result. -/
theorem after_probs : after ops (fun b => m (c, b)) (Proc.devRef .tc main_v32)
    = probs (counts (m ((c.tc : Thread nD τ).loc main_arg0)) (m ((c.tc : Thread nD τ).loc main_arg1)) (m ((c.tc : Thread nD τ).loc main_arg2))) := by
  simp only [ops, TRef.binary, TRef.nullary, TRef.reshape, TRef.ternary, TRef.quaternary, TRef.unary, TRef.toBuf, TRef.ofBuf, cast_eq]; after_results_simp <;> rfl

end

set_option maxRecDepth 8192 in
set_option maxHeartbeats 31600000 in
/-- Every execution of @main ends with the two results at these functions of the arguments, the arguments as they began,
    and every counter at zero. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v30) = codes (counts (m ((c.tc : Thread nD τ).loc main_arg0)) (m ((c.tc : Thread nD τ).loc main_arg1)) (m ((c.tc : Thread nD τ).loc main_arg2)))
      ∧ r.2.mem ((c.tc : Thread nD τ).loc main_v32) = probs (counts (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v30).trans (after_codes m c), (h c main_v32).trans (after_probs m c),
      (h c main_arg0).trans (by simp only [ops, TRef.binary, TRef.nullary, TRef.reshape, TRef.ternary, TRef.quaternary, TRef.unary, TRef.toBuf, TRef.ofBuf, cast_eq]; after_results_simp <;> rfl),
      (h c main_arg1).trans (by simp only [ops, TRef.binary, TRef.nullary, TRef.reshape, TRef.ternary, TRef.quaternary, TRef.unary, TRef.toBuf, TRef.ofBuf, cast_eq]; after_results_simp <;> rfl),
      (h c main_arg2).trans (by simp only [ops, TRef.binary, TRef.nullary, TRef.reshape, TRef.ternary, TRef.quaternary, TRef.unary, TRef.toBuf, TRef.ofBuf, cast_eq]; after_results_simp <;> rfl)⟩)
    (run_seq scopedRefs_eq scopedSems_eq defs main (fun _ => ops) main_eq (fun _ => ops_sub) m ρ)

end Cert.ReferenceIdeal.Run

end
-- ==== Proof.ReferenceIdeal.Dist.lean ====
/- The reference's squared distances are those of the common form. -/
module

public import proofs.«01_k».proof.Proof.ReferenceIdeal.Run
public import proofs.«01_k».proof.Proof.Spec
public import Idealize.ShloMosaic.Lib.StackMember

@[expose] public section

noncomputable section

namespace Cert.ReferenceIdeal.Dist

open Cert.ReferenceIdeal Cert.ReferenceIdeal.Gen Cert.ReferenceIdeal.Run Idealize.ShloMosaic.ValueIdx Idealize.ShloMosaic

variable {x0 : Spec.Slots} {x1 : Spec.Encs} {x2 : Spec.Ids}

/-- A coordinate of a query. -/
theorem queries_apply (h : Spec.Ok x0 x1 x2) (b : Fin 16) (R : Fin 256) (e : Fin 128) :
    queries x0 (ix3 b R e) = ((Spec.query x0 b R e : ℝ) : EReal) := by
  unfold queries
  refine (transpose_apply _ _ _ (ix3 b R e) (ix3 R b e) ?_).trans ((shapeCast_apply _ _ (ix3 R b e) (Spec.place b R e) ?_).trans (h.slot b R e))
  · intro a; match a with
    | ⟨0, _⟩ => rfl
    | ⟨1, _⟩ => rfl
    | ⟨2, _⟩ => rfl
  · rw [Shape.rowMajor_val_three, Shape.rowMajor_val_three]
    have := e.isLt
    have := b.isLt
    show (R.val / 8 * 8 + R.val % 8) * 2048 + (b.val * 128 + e.val) = (R.val * 16 + b.val) * 128 + e.val
    omega

/-- The squared norm of a query. -/
theorem queryNorms_apply (h : Spec.Ok x0 x1 x2) (b : Fin 16) (R : Fin 256) :
    queryNorms x0 (ix2 b R) = ((∑ e, Spec.query x0 b R e * Spec.query x0 b R e : ℝ) : EReal) := by
  refine (Ideal.hostReduceAdd_single reducesTo_S16x256x128_S16x256_d2 (by decide : S16x256x128.Reduces [2] S16x256) _ _ (ix2 b R)).trans ?_
  refine (congrArg₂ (· + ·) Ideal.ofBits_zero_f32 ?_).trans (zero_add _)
  rw [Read.coe_sum]
  refine Finset.sum_congr rfl fun e _ => ?_
  have hl : (by decide : S16x256x128.Reduces [2] S16x256).lift (ix2 b R) e = ix3 b R (e : Fin 128) := by
    funext ax; match ax with
    | ⟨0, _⟩ => rfl
    | ⟨1, _⟩ => rfl
    | ⟨2, _⟩ => rfl
  rw [EReal.coe_mul]
  exact congrArg₂ (· * ·) ((congrArg (queries x0) hl).trans (queries_apply h b R e)) ((congrArg (queries x0) hl).trans (queries_apply h b R e))

/-- The squared norm of an encoding. -/
theorem encNorms_apply (h : Spec.Ok x0 x1 x2) (b : Fin 16) (k : Fin 10000) :
    encNorms x1 (ix2 b k) = ((∑ e, Spec.enc x1 b k e * Spec.enc x1 b k e : ℝ) : EReal) := by
  refine (Ideal.hostReduceAdd_single reducesTo_S16x10000x128_S16x10000_d2 (by decide : S16x10000x128.Reduces [2] S16x10000) _ _ (ix2 b k)).trans ?_
  refine (congrArg₂ (· + ·) Ideal.ofBits_zero_f32 ?_).trans (zero_add _)
  rw [Read.coe_sum]
  refine Finset.sum_congr rfl fun e _ => ?_
  have hl : (by decide : S16x10000x128.Reduces [2] S16x10000).lift (ix2 b k) e = ix3 b k (e : Fin 128) := by
    funext ax; match ax with
    | ⟨0, _⟩ => rfl
    | ⟨1, _⟩ => rfl
    | ⟨2, _⟩ => rfl
  rw [EReal.coe_mul]
  exact congrArg₂ (· * ·) ((congrArg x1 hl).trans (h.enc b k e)) ((congrArg x1 hl).trans (h.enc b k e))

/-- The product of a query and an encoding. -/
theorem products_apply (h : Spec.Ok x0 x1 x2) (b : Fin 16) (R : Fin 256) (k : Fin 10000) :
    products x0 x1 (ix3 b R k) = ((∑ e, Spec.query x0 b R e * Spec.enc x1 b k e : ℝ) : EReal) := by
  show FloatOps.dotGeneral dot_S16x256x128_S16x10000x128_S16x256x10000_2_2_1_1_0_0 none _ (queries x0) x1 (ix3 b R k) = _
  rw [Ideal.dotGeneral_apply, ← Equiv.sum_comp (contrEquiv1 dot_S16x256x128_S16x10000x128_S16x256x10000_2_2_1_1_0_0 128 rfl rfl).symm, Read.coe_sum]
  refine Finset.sum_congr rfl fun e _ => ?_
  have c3 := contrEquiv1_symm_val dot_S16x256x128_S16x10000x128_S16x256x10000_2_2_1_1_0_0 128 rfl rfl e
  have l3 : dot_S16x256x128_S16x10000x128_S16x256x10000_2_2_1_1_0_0.lhsIdx (ix3 b R k) ((contrEquiv1 _ 128 rfl rfl).symm e) = ix3 b R e := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : dot_S16x256x128_S16x10000x128_S16x256x10000_2_2_1_1_0_0.rhsIdx (ix3 b R k) ((contrEquiv1 _ 128 rfl rfl).symm e) = ix3 b k e := by
    funext ax; apply Fin.ext
    match ax with
    | ⟨0, _⟩ => simp [DotDims.rhsIdx]; rfl
    | ⟨1, _⟩ => simp [DotDims.rhsIdx]; rfl
    | ⟨2, _⟩ => simp [DotDims.rhsIdx]; exact c3
  rw [l3, r3, queries_apply h, h.enc, ← EReal.coe_mul]
  rfl

/-- The squared distance of a query and an encoding. -/
theorem sqDists_apply (h : Spec.Ok x0 x1 x2) (b : Fin 16) (R : Fin 256) (k : Fin 10000) :
    sqDists x0 x1 (ix3 b R k) = ((Spec.dist x0 x1 b R k : ℝ) : EReal) := by
  have e1 : broadcastInDim S16x256x10000 ![0, 1, 2] bcast_S16x256x1_S16x256x10000_0_1_2 (broadcastInDim S16x256x1 ![0, 1] bcast_S16x256_S16x256x1_0_1 (queryNorms x0)) (ix3 b R k)
      = ((∑ e, Spec.query x0 b R e * Spec.query x0 b R e : ℝ) : EReal) := by
    refine (broadcastInDim_apply _ _ _ (ix3 b R k) (ix3 b R 0) (fun a => by match a with
      | ⟨0, _⟩ => rfl
      | ⟨1, _⟩ => rfl
      | ⟨2, _⟩ => rfl)).trans ((broadcastInDim_apply _ _ _ (ix3 b R 0) (ix2 b R) (fun a => by match a with
      | ⟨0, _⟩ => rfl
      | ⟨1, _⟩ => rfl)).trans (queryNorms_apply h b R))
  have e2 : broadcastInDim S16x256x10000 ![0, 1, 2] bcast_S16x1x10000_S16x256x10000_0_1_2 (broadcastInDim S16x1x10000 ![0, 2] bcast_S16x10000_S16x1x10000_0_2 (encNorms x1)) (ix3 b R k)
      = ((∑ e, Spec.enc x1 b k e * Spec.enc x1 b k e : ℝ) : EReal) := by
    refine (broadcastInDim_apply _ _ _ (ix3 b R k) (ix3 b 0 k) (fun a => by match a with
      | ⟨0, _⟩ => rfl
      | ⟨1, _⟩ => rfl
      | ⟨2, _⟩ => rfl)).trans ((broadcastInDim_apply _ _ _ (ix3 b 0 k) (ix2 b k) (fun a => by match a with
      | ⟨0, _⟩ => rfl
      | ⟨1, _⟩ => rfl)).trans (encNorms_apply h b k))
  show max (broadcastInDim S16x256x10000 ![0, 1, 2] bcast_S16x256x1_S16x256x10000_0_1_2 (broadcastInDim S16x256x1 ![0, 1] bcast_S16x256_S16x256x1_0_1 (queryNorms x0)) (ix3 b R k)
      + broadcastInDim S16x256x10000 ![0, 1, 2] bcast_S16x1x10000_S16x256x10000_0_1_2 (broadcastInDim S16x1x10000 ![0, 2] bcast_S16x10000_S16x1x10000_0_2 (encNorms x1)) (ix3 b R k)
      - Ideal.ofBits .f32 0x40000000#32 * products x0 x1 (ix3 b R k)) (Ideal.ofBits .f32 0x00000000#32) = _
  rw [e1, e2, products_apply h, Read.ofBits_two, Ideal.ofBits_zero_f32, ← EReal.coe_add, ← EReal.coe_mul, ← EReal.coe_sub, ← EReal.coe_zero]
  exact (EReal.coe_strictMono.monotone.map_max).symm

end Cert.ReferenceIdeal.Dist

end
-- ==== Proof.Order.lean ====
/- The five first positions of a stable sort by a number are the five least ones. -/
module

public import proofs.«01_k».proof.Proof.Vote
public import Idealize.ShloMosaic.Lib.SortFacts
public import Idealize.ShloMosaic.Lib.SortPrefix

@[expose] public section

namespace Cert.Order

open Idealize.ShloMosaic

variable {n : ℕ} {α : Type} [LinearOrder α]

/-- The order of positions by number, then by position, is total. -/
theorem before_strictTotal (d : Fin n → α) : StrictTotalBefore fun k l => decide (Vote.Before d k l) where
  irrefl k := decide_eq_false (Vote.before_irrefl d k)
  trans a b c hab hbc := decide_eq_true (Vote.before_trans (of_decide_eq_true hab) (of_decide_eq_true hbc))
  total a b h := (Vote.before_total d h).imp decide_eq_true decide_eq_true

/-- A stable sort of increasing positions by a number is the sort by number, then by position. -/
theorem stableSort_eq (d : Fin n → α) (R : Fin n → Fin n → Bool) (hR : ∀ k l, R k l = decide (d k < d l)) (l : List (Fin n))
    (hl : l.Pairwise (· < ·)) : stableSort R l = stableSort (fun k l => decide (Vote.Before d k l)) l := by
  induction l with
  | nil => rfl
  | cons a l ih =>
    unfold stableSort
    rw [ih hl.of_cons]
    refine insertBefore_congr _ _ a _ fun b hb => ?_
    have hab : a < b := List.rel_of_pairwise_cons hl ((perm_stableSort _ l).mem_iff.mp hb)
    rw [hR]
    refine decide_eq_decide.mpr ⟨Or.inl, fun h => ?_⟩
    rcases h with h | ⟨_, h⟩
    · exact h
    · exact absurd h (lt_asymm hab)

/-- The `j`-th position of a stable sort by a number is the `j`-th of the five first positions. -/
theorem sortedFrom_eq (d : Fin n → α) (R : Fin n → Fin n → Bool) (hR : ∀ k l, R k l = decide (d k < d l)) (hn : 5 ≤ n)
    (σ : Fin 5 → Fin n) (hσ : Vote.IsFirst d σ) (j : Fin 5) : sortedFrom R (j.castLE hn) = σ j := by
  have e : sortPositions n R = sortPositions n fun k l => decide (Vote.Before d k l) :=
    stableSort_eq d R hR (List.finRange n) (List.pairwise_lt_finRange n)
  have e' : sortedFrom R (j.castLE hn) = sortedFrom (fun k l => decide (Vote.Before d k l)) (j.castLE hn) := by
    unfold sortedFrom
    exact List.get_of_eq e _
  refine e'.trans ((before_strictTotal d).sortedFrom_eq_of_prefix hn σ hσ.injective (fun i k hik => decide_eq_false fun h => ?_)
    (fun i p hp => decide_eq_false fun h => ?_) j)
  · have := Vote.rank_lt_of_before h
    rw [hσ k, hσ i] at this
    exact absurd this (by have : i.val < k.val := hik; omega)
  · have hr := Vote.rank_lt_of_before h
    rw [hσ i] at hr
    exact hp ⟨Vote.rank d p, lt_trans hr i.isLt⟩ (Vote.rank_injective d (hσ _))

end Cert.Order
-- ==== Proof.ReferenceIdeal.Nearest.lean ====
/- The five positions that the reference picks are those of the five nearest encodings. -/
module

public import proofs.«01_k».proof.Proof.ReferenceIdeal.Dist
public import proofs.«01_k».proof.Proof.Order

@[expose] public section

set_option maxRecDepth 16384

noncomputable section

namespace Cert.ReferenceIdeal.Nearest

open Cert.ReferenceIdeal Cert.ReferenceIdeal.Gen Cert.ReferenceIdeal.Run Idealize.ShloMosaic.ValueIdx Idealize.ShloMosaic

/-- Less a square root is greater where the number is less. -/
theorem gt_iff (x y : ℝ) (hx : 0 ≤ x) (hy : 0 ≤ y) :
    (FloatOps.cmpfTotal (F := Ideal) (φ := .f32) .gt (-(Ideal.sqrt (x : EReal))) (-(Ideal.sqrt (y : EReal))) == 1#1) = decide (x < y) := by
  rw [Ideal.cmpfTotal_def, Ideal.sqrt_coe, Ideal.sqrt_coe]
  show (Ideal.cmp .ogt _ _ == 1#1) = _
  rw [if_neg (not_lt.mpr hx), if_neg (not_lt.mpr hy), Read.cmp_ogt, ← EReal.coe_neg, ← EReal.coe_neg]
  have e : ((-√y : ℝ) : EReal) < ((-√x : ℝ) : EReal) ↔ x < y := by
    rw [EReal.coe_lt_coe_iff, neg_lt_neg_iff, Real.sqrt_lt_sqrt_iff hx]
  by_cases h : x < y
  · rw [if_pos (e.mpr h), decide_eq_true h]; rfl
  · rw [if_neg (fun h' => h (e.mp h')), decide_eq_false h]; rfl

/-- The index of row `R` of block `b` with position `k` put in. -/
theorem along_eq (b : Fin 16) (R : Fin 256) (s k : Fin 10000) :
    Shape.Idx.along (s := S16x256x10000) (ix3 b R s) (2 : Fin 3) k = ix3 b R k := by
  funext ax
  match ax with
  | ⟨0, _⟩ => rfl
  | ⟨1, _⟩ => rfl
  | ⟨2, _⟩ => rfl

/-- The number of a position put in is that position. -/
theorem iota_along (j : S16x256x10000.Idx) (k : Fin 10000) :
    iotaInDim S16x256x10000 32 (2 : Fin 3) (Shape.Idx.along (s := S16x256x10000) j (2 : Fin 3) k) = BitVec.ofNat 32 k.val := rfl

/-- The `s`-th position of a row of distances is the `s`-th nearest. -/
theorem nearest_apply (d : FVec Ideal S16x256x10000 .f32) (b : Fin 16) (R : Fin 256) (δ : Fin 10000 → ℝ)
    (hd : ∀ k, d (ix3 b R k) = ((δ k : ℝ) : EReal)) (h0 : ∀ k, 0 ≤ δ k) (σ : Fin 5 → Fin 10000) (hσ : Vote.IsFirst δ σ) (s : Fin 5) :
    nearest d (ix3 b R s) = BitVec.ofNat 32 (σ s).val := by
  have key : ∀ k l : Fin 10000, (FloatOps.cmpfTotal (F := Ideal) (φ := .f32) .gt
      (Host.negf (Host.sqrt d) (Shape.Idx.along (s := S16x256x10000) (ix3 b R (s.castLE (by omega))) (2 : Fin 3) k))
      (Host.negf (Host.sqrt d) (Shape.Idx.along (s := S16x256x10000) (ix3 b R (s.castLE (by omega))) (2 : Fin 3) l)) == 1#1) = decide (δ k < δ l) := by
    intro k l
    rw [along_eq, along_eq]
    show (FloatOps.cmpfTotal (F := Ideal) (φ := .f32) .gt (-(Ideal.sqrt (d (ix3 b R k)))) (-(Ideal.sqrt (d (ix3 b R l)))) == 1#1) = _
    rw [hd, hd]
    exact gt_iff _ _ (h0 k) (h0 l)
  have e := Order.sortedFrom_eq δ _ key (by omega) σ hσ s
  unfold nearest Host.topK Host.sort2
  simp only [show 2 < S16x256x10000.rank from by decide, dite_true]
  refine (extractStridedSlice_apply _ _ _ _ (ix3 b R (s.castLE (by omega) : Fin 10000)) (fun a => by
    match a with
    | ⟨0, _⟩ => exact (Nat.zero_add _).symm
    | ⟨1, _⟩ => exact (Nat.zero_add _).symm
    | ⟨2, _⟩ => exact (Nat.zero_add _).symm)).trans ?_
  refine (iota_along _ _).trans ?_
  refine congrArg (fun k : Fin 10000 => BitVec.ofNat 32 k.val) ?_
  exact e

end Cert.ReferenceIdeal.Nearest

end
-- ==== Proof.ReferenceIdeal.Counts.lean ====
/- The reference's counts: the ids found at five positions, and how often each class occurs among them. -/
module

public import proofs.«01_k».proof.Proof.ReferenceIdeal.Nearest
public import Idealize.ShloMosaic.Lib.StableHlo.Predicate

@[expose] public section

noncomputable section

namespace Cert.ReferenceIdeal.Counts

open Cert.ReferenceIdeal Cert.ReferenceIdeal.Gen Cert.ReferenceIdeal.Run Idealize.ShloMosaic.ValueIdx Idealize.ShloMosaic
open Idealize.ShloMosaic.StableHlo.Predicate

/-- How the ids are gathered: along the last axis, one id for each position. -/
abbrev picks : GatherDims S16x256x10000 S16x256x5x1 S16x256x5 := gather_S16x256x10000_S16x256x5x1_S16x256x5_n_2_01_01_2_3_111

section gather
variable (p : IVec S16x256x5 32) (b : Fin 16) (R : Fin 256) (s : Fin 5) (k : Fin 10000) (hp : p (ix3 b R s) = BitVec.ofNat 32 k.val)
include hp

/-- A position is not negative, so it is its own start index. -/
theorem starts_apply : starts p (ix4 b R s 0) = BitVec.ofNat 32 k.val := by
  have hk := k.isLt
  unfold starts
  refine (shapeCast_apply _ _ (ix4 b R s 0) (ix3 b R s) ?_).trans ?_
  · rw [Shape.rowMajor_val_three, Shape.rowMajor_val_four]
    show (b.val * 256 + R.val) * 5 + s.val = ((b.val * 256 + R.val) * 5 + s.val) * 1 + 0
    omega
  rw [select_apply, cmpi_apply, hp]
  have hn : (BitVec.ofNat 32 k.val).toNat = k.val := by rw [BitVec.toNat_ofNat]; omega
  have h0 : IntOp.cmpi .slt (BitVec.ofNat 32 k.val) 0#32 ≠ 1#1 := fun h => by
    have := (slt_iff_toNat (by omega) (by decide)).mp h
    exact absurd this (Nat.not_lt_zero _)
  exact if_neg h0

/-- Its start index lies in the array. -/
theorem inRange_apply : inRange (starts p) (ix3 b R s) = 1#1 := by
  have hk := k.isLt
  have hn : (BitVec.ofNat 32 k.val).toNat = k.val := by rw [BitVec.toNat_ofNat]; omega
  have hl : ∀ o : Fin 1, (by decide : S16x256x5x1.Reduces [3] S16x256x5).lift (ix3 b R s) o = ix4 b R s 0 := by
    intro o
    funext ax; match ax with
    | ⟨0, _⟩ => rfl
    | ⟨1, _⟩ => rfl
    | ⟨2, _⟩ => rfl
    | ⟨3, _⟩ => exact Fin.ext (Nat.lt_one_iff.mp o.isLt)
  have hv : (andi (cmpi .sge (starts p) (broadcastInDim S16x256x5x1 ![] bcast_S_S16x256x5x1 (constantI S_ 32 0#32)))
      (cmpi .sle (starts p) (broadcastInDim S16x256x5x1 ![0, 1, 2, 3] bcast_S1x1x1x1_S16x256x5x1_0_1_2_3 (broadcastInDim S1x1x1x1 ![3] bcast_S1_S1x1x1x1_3 (constantI S1 32 9999#32)))) : IVec S16x256x5x1 1)
      (ix4 b R s 0) = 1#1 := by
    rw [andi_apply, cmpi_apply, cmpi_apply, starts_apply p b R s k hp]
    have h1 : IntOp.cmpi .sge (BitVec.ofNat 32 k.val) 0#32 = 1#1 := (sge_iff_toNat (by omega) (by decide)).mpr (Nat.zero_le _)
    have h2 : IntOp.cmpi .sle (BitVec.ofNat 32 k.val) 9999#32 = 1#1 := (sle_iff_toNat (by omega) (by decide)).mpr (by
      rw [hn]
      show k.val ≤ 9999
      omega)
    exact congrArg₂ IntOp.andi h1 h2
  unfold inRange
  rw [Host.reduce_eq_fold_single IntOp.andi _ _ reducesTo_S16x256x5x1_S16x256x5_d3 (by decide : S16x256x5x1.Reduces [3] S16x256x5) h_S_ (ix3 b R s)]
  refine Vote.fold_eq_of_absorb _ _ _ _ _ (0 : Fin 1) (Finset.mem_univ _) ((congrArg _ (hl 0)).trans hv) rfl fun o _ => ?_
  exact congrArg (IntOp.andi 1#1) ((congrArg _ (hl o)).trans hv)

/-- What is gathered at a position is the operand there. -/
theorem gather_apply (x : IVec S16x256x10000 32) :
    Host.gather picks x (starts p) (ix3 b R s) = x (ix3 b R k) := by
  have hk := k.isLt
  have kept : ∀ a : Fin 3, a ∉ picks.sKept := by decide
  refine congrArg x (funext fun a => Fin.ext ?_)
  show picks.start (ix3 b R s) (starts p) a + picks.batchCoord (ix3 b R s) a + picks.offCoord (ix3 b R s) a = _
  rw [GatherDims.offCoord_eq_zero _ _ _ (kept a), Nat.add_zero]
  match a with
  | ⟨0, _⟩ =>
    rw [GatherDims.start_batching _ _ _ _ (by decide +revert), Nat.zero_add]
    rfl
  | ⟨1, _⟩ =>
    rw [GatherDims.start_batching _ _ _ _ (by decide +revert), Nat.zero_add]
    rfl
  | ⟨2, _⟩ =>
    rw [GatherDims.batchCoord_eq_zero _ _ _ (by decide +revert), Nat.add_zero]
    have hs : ∀ o, picks.siIdx (ix3 b R s) o = ix4 b R s 0 := by
      intro o
      funext c; refine Fin.ext ?_
      match c with
      | ⟨0, _⟩ => rfl
      | ⟨1, _⟩ => rfl
      | ⟨2, _⟩ => rfl
      | ⟨3, _⟩ => exact Nat.lt_one_iff.mp o.isLt
    unfold GatherDims.start
    rw [dif_pos (by decide +revert), hs, starts_apply p b R s k hp, Read.toInt_ofNat (by omega)]
    show min k.val 9999 = k.val
    omega

/-- The id found at a position is the operand's there. -/
theorem idsAt_apply (x : IVec S16x256x10000 32) : idsAt x p (ix3 b R s) = x (ix3 b R k) := by
  unfold idsAt
  rw [select_apply, inRange_apply p b R s k hp, gather_apply p b R s k hp]
  exact if_pos rfl

end gather

/-- The ids of a block, for each query. -/
theorem idsOf_apply (x2 : Spec.Ids) (b : Fin 16) (R : Fin 256) (k : Fin 10000) : idsOf x2 (ix3 b R k) = x2 (ix2 b k) :=
  (broadcastInDim_apply _ _ _ (ix3 b R k) (ix3 b 0 k) (fun a => by match a with
    | ⟨0, _⟩ => rfl
    | ⟨1, _⟩ => rfl
    | ⟨2, _⟩ => rfl)).trans (broadcastInDim_apply _ _ _ (ix3 b 0 k) (ix2 b k) (fun a => by match a with
    | ⟨0, _⟩ => rfl
    | ⟨1, _⟩ => rfl))

/-- The mark of an id at a class. -/
theorem oneHot_apply (v : IVec S16x256x5 32) (b : Fin 16) (R : Fin 256) (s : Fin 5) (q : Fin 32) (hv : v (ix3 b R s) = BitVec.ofNat 32 q.val) (c : Fin 32) :
    oneHot (F := Ideal) v (ix4 b R s c) = (((if q = c then 1 else 0 : ℕ) : ℝ) : EReal) := by
  have hq := q.isLt
  have hc := c.isLt
  have e1 : broadcastInDim S16x256x5x32 ![0, 1, 2, 3] bcast_S16x256x5x1_S16x256x5x32_0_1_2_3 (broadcastInDim S16x256x5x1 ![0, 1, 2] bcast_S16x256x5_S16x256x5x1_0_1_2 v) (ix4 b R s c)
      = BitVec.ofNat 32 q.val :=
    (broadcastInDim_apply _ _ _ (ix4 b R s c) (ix4 b R s 0) (fun a => by match a with
      | ⟨0, _⟩ => rfl
      | ⟨1, _⟩ => rfl
      | ⟨2, _⟩ => rfl
      | ⟨3, _⟩ => rfl)).trans ((broadcastInDim_apply _ _ _ (ix4 b R s 0) (ix3 b R s) (fun a => by match a with
      | ⟨0, _⟩ => rfl
      | ⟨1, _⟩ => rfl
      | ⟨2, _⟩ => rfl)).trans hv)
  have e2 : broadcastInDim S16x256x5x32 ![0, 1, 2, 3] bcast_S1x1x1x32_S16x256x5x32_0_1_2_3 (iotaInDim S1x1x1x32 32 3) (ix4 b R s c) = BitVec.ofNat 32 c.val :=
    (broadcastInDim_apply _ _ _ (ix4 b R s c) (ix4 0 0 0 c) (fun a => by match a with
      | ⟨0, _⟩ => rfl
      | ⟨1, _⟩ => rfl
      | ⟨2, _⟩ => rfl
      | ⟨3, _⟩ => rfl)).trans rfl
  unfold oneHot
  rw [uitofp_apply, cmpi_apply, e1, e2, Read.cmpi_eq]
  have e : BitVec.ofNat 32 q.val = BitVec.ofNat 32 c.val ↔ q = c :=
    (Read.ofNat_inj (by omega) (by omega)).trans ⟨fun h => Fin.ext h, fun h => by rw [h]⟩
  by_cases h : q = c
  · rw [if_pos (e.mpr h), if_pos h]
    show ((((1#1 : BitVec 1).toNat : ℝ)) : EReal) = _
    rfl
  · rw [if_neg (fun h' => h (e.mp h')), if_neg h]
    show ((((0#1 : BitVec 1).toNat : ℝ)) : EReal) = _
    rfl

/-- The counts of five ids. -/
theorem countsOf_apply (v : IVec S16x256x5 32) (b : Fin 16) (R : Fin 256) (q : Fin 5 → Fin 32) (hv : ∀ s, v (ix3 b R s) = BitVec.ofNat 32 (q s).val) (c : Fin 32) :
    countsOf (F := Ideal) v (ix3 b R c) = (((Finset.univ.filter fun s => q s = c).card : ℝ) : EReal) := by
  refine (Ideal.hostReduceAdd_single reducesTo_S16x256x5x32_S16x256x32_d2 (by decide : S16x256x5x32.Reduces [2] S16x256x32) _ _ (ix3 b R c)).trans ?_
  refine (congrArg₂ (· + ·) Ideal.ofBits_zero_f32 ?_).trans (zero_add _)
  rw [Finset.card_filter]
  push_cast
  rw [Read.coe_sum]
  refine Finset.sum_congr rfl fun s _ => ?_
  have hl : (by decide : S16x256x5x32.Reduces [2] S16x256x32).lift (ix3 b R c) s = ix4 b R (s : Fin 5) c := by
    funext ax; match ax with
    | ⟨0, _⟩ => rfl
    | ⟨1, _⟩ => rfl
    | ⟨2, _⟩ => rfl
    | ⟨3, _⟩ => rfl
  refine ((congrArg (oneHot (F := Ideal) v) hl).trans (oneHot_apply v b R s (q s) (hv s) c)).trans ?_
  push_cast
  rfl

/-- The reference's counts are the votes. -/
theorem counts_apply {x0 : Spec.Slots} {x1 : Spec.Encs} {x2 : Spec.Ids} (h : Spec.Ok x0 x1 x2) (b : Fin 16) (R : Fin 256) (c : Fin 32) :
    counts (F := Ideal) x0 x1 x2 (ix3 b R c) = ((Spec.votes x0 x1 x2 b R c : ℝ) : EReal) :=
  countsOf_apply _ b R (fun s => Spec.cls x2 b (Spec.nearest x0 x1 b R s)) (fun s =>
    (idsAt_apply _ b R s (Spec.nearest x0 x1 b R s) (Nearest.nearest_apply _ b R (Spec.dist x0 x1 b R) (Dist.sqDists_apply h b R)
      (Spec.dist_nonneg x0 x1 b R) _ (Spec.nearest_isFirst x0 x1 b R) s) _).trans ((idsOf_apply x2 b R _).trans (h.word b _))) c

end Cert.ReferenceIdeal.Counts

end
-- ==== Proof.ReferenceIdeal.Result.lean ====
/- What the reference returns: the first class of most votes, and its share of the five. -/
module

public import proofs.«01_k».proof.Proof.ReferenceIdeal.Counts

@[expose] public section

noncomputable section

namespace Cert.ReferenceIdeal.Result

open Cert.ReferenceIdeal Cert.ReferenceIdeal.Gen Cert.ReferenceIdeal.Run Idealize.ShloMosaic.ValueIdx Idealize.ShloMosaic
open Idealize.ShloMosaic.TcCoe Idealize.SL.Sem

/-- A fold that keeps one of its two operands, and keeps `w` against every weaker one, ends at `w` if `w` is in the list
    and everything else is weaker. -/
theorem foldl_eq {α : Type} (f : α → α → α) (weak : α → Prop) (w : α) (hf : ∀ a p, f a p = a ∨ f a p = p)
    (h1 : ∀ a, weak a → f a w = w) (h2 : ∀ p, weak p → f w p = w) (L : List α) (hL : ∀ p ∈ L, weak p) (hw : w ∈ L) (init : α)
    (hi : weak init) : L.foldl f init = w := by
  have stay : ∀ L : List α, (∀ p ∈ L, weak p) → L.foldl f w = w := by
    intro L
    induction L with
    | nil => intro _; rfl
    | cons p L ih =>
      intro h
      rw [List.foldl_cons, h2 p (h p List.mem_cons_self)]
      exact ih fun q hq => h q (List.mem_cons_of_mem p hq)
  induction L generalizing init with
  | nil => exact absurd hw List.not_mem_nil
  | cons p L ih =>
    have hL' : ∀ q ∈ L, weak q := fun q hq => hL q (List.mem_cons_of_mem p hq)
    rw [List.foldl_cons]
    rcases List.mem_cons.mp hw with e | hw'
    · rw [← e, h1 init hi]
      exact stay L hL'
    · refine ih hL' hw' _ ?_
      rcases hf init p with e | e <;> rw [e]
      · exact hi
      · exact hL p List.mem_cons_self

/-- The two choices of the reducer, read from the truth of its three comparisons. -/
theorem pick (p q r : Prop) [Decidable p] [Decidable q] [Decidable r] (x y : EReal) (i j : BitVec 32) :
    (Scalar.select (IntOp.ori (if p then 1#1 else 0#1) 0#1) x y,
      Scalar.select (IntOp.ori (IntOp.ori (if p then 1#1 else 0#1) 0#1) (IntOp.andi (if q then 1#1 else 0#1) (if r then 1#1 else 0#1))) i j)
    = (if p then x else y, if p ∨ (q ∧ r) then i else j) := by
  by_cases hp : p <;> by_cases hq : q <;> by_cases hr : r <;> simp [hp, hq, hr, Scalar.select, IntOp.ori, IntOp.andi]

/-- The reducer's two components. -/
theorem reducer_eq (a b : EReal × BitVec 32) : reducer_argmax_f32_i32 (F := Ideal) a b
    = (if b.1 < a.1 then a.1 else b.1, if b.1 < a.1 ∨ (a.1 = b.1 ∧ a.2.toInt < b.2.toInt) then a.2 else b.2) := by
  have e3 : Ideal.cmp .une a.1 a.1 = 0#1 := by simp [Ideal.cmp]
  have e6 : IntOp.cmpi .slt a.2 b.2 = if a.2.toInt < b.2.toInt then 1#1 else 0#1 := by
    by_cases h : a.2.toInt < b.2.toInt <;> simp [IntOp.cmpi, BitVec.slt, h]
  show (Scalar.select (IntOp.ori (Ideal.cmp .ogt a.1 b.1) (Ideal.cmp .une a.1 a.1)) a.1 b.1,
    Scalar.select (IntOp.ori (IntOp.ori (Ideal.cmp .ogt a.1 b.1) (Ideal.cmp .une a.1 a.1)) (IntOp.andi (Ideal.cmp .oeq a.1 b.1) (IntOp.cmpi .slt a.2 b.2))) a.2 b.2) = _
  rw [e3, e6, Read.cmp_ogt, Read.cmp_oeq]
  exact pick _ _ _ _ _ _ _

/-- A pair that loses to `w`, or is `w`: its number is less, or as great and its position no less. -/
def Weak (w a : EReal × BitVec 32) : Prop := a.1 < w.1 ∨ (a.1 = w.1 ∧ w.2.toInt ≤ a.2.toInt)

/-- The reducer keeps one of its operands. -/
theorem reducer_or (a p : EReal × BitVec 32) : reducer_argmax_f32_i32 (F := Ideal) a p = a ∨ reducer_argmax_f32_i32 (F := Ideal) a p = p := by
  rw [reducer_eq]
  by_cases h1 : p.1 < a.1
  · left; rw [if_pos h1, if_pos (Or.inl h1)]
  · by_cases h2 : a.1 = p.1 ∧ a.2.toInt < p.2.toInt
    · left; rw [if_neg h1, if_pos (Or.inr h2), ← h2.1]
    · right; rw [if_neg h1, if_neg (not_or.mpr ⟨h1, h2⟩)]

/-- Against a weaker left operand it keeps the right one. -/
theorem reducer_left (w a : EReal × BitVec 32) (h : Weak w a) : reducer_argmax_f32_i32 (F := Ideal) a w = w := by
  rw [reducer_eq]
  rcases h with h | ⟨h, h'⟩
  · rw [if_neg (not_lt.mpr h.le), if_neg (not_or.mpr ⟨not_lt.mpr h.le, fun e => absurd e.1 h.ne⟩)]
  · rw [if_neg (not_lt.mpr h.le), if_neg (not_or.mpr ⟨not_lt.mpr h.le, fun e => absurd e.2 (not_lt.mpr h')⟩)]

/-- Against a weaker right operand it keeps the left one. -/
theorem reducer_right (w p : EReal × BitVec 32) (h : Weak w p) : reducer_argmax_f32_i32 (F := Ideal) w p = w := by
  rw [reducer_eq]
  rcases h with h | ⟨h, h'⟩
  · rw [if_pos h, if_pos (Or.inl h)]
  · rw [if_neg (not_lt.mpr h.ge), h]
    by_cases e : w.2.toInt < p.2.toInt
    · rw [if_pos (Or.inr ⟨rfl, e⟩)]
    · rw [if_neg (not_or.mpr ⟨lt_irrefl _, fun e' => e e'.2⟩), BitVec.eq_of_toInt_eq (le_antisymm (not_lt.mp e) h')]

section row
variable (n : FVec Ideal S16x256x32 .f32) (b : Fin 16) (R : Fin 256) (v : Fin 32 → ℕ) (c₀ : Fin 32)

/-- The pairs of a row are its counts, each with its class. -/
theorem mem_fiber (p : EReal × BitVec 32) : p ∈ Host.argReduceFiber n (iotaInDim S16x256x32 32 2) reducesTo_S16x256x32_S16x256_d2 (ix2 b R)
    ↔ ∃ c : Fin 32, p = (n (ix3 b R c), BitVec.ofNat 32 c.val) := by
  have hd : ∀ (b' : Fin 16) (R' : Fin 256) (c : Fin 32), reducesTo_S16x256x32_S16x256_d2.drop (ix3 b' R' c) = ix2 b' R' := by
    intro b' R' c
    funext a; match a with
    | ⟨0, _⟩ => rfl
    | ⟨1, _⟩ => rfl
  unfold Host.argReduceFiber
  simp only [List.mem_map, List.mem_filter, List.mem_finRange, true_and, decide_eq_true_eq]
  constructor
  · rintro ⟨i, hi, rfl⟩
    generalize S16x256x32.rowMajor.symm i = y at hi ⊢
    obtain ⟨b', R', c, rfl⟩ : ∃ (b' : Fin 16) (R' : Fin 256) (c : Fin 32), y = ix3 b' R' c := ⟨y 0, y 1, y 2, eq_ix3 y⟩
    rw [hd] at hi
    have hb : b' = b := congrFun hi 0
    have hR : R' = R := congrFun hi 1
    subst hb hR
    exact ⟨c, rfl⟩
  · rintro ⟨c, rfl⟩
    refine ⟨S16x256x32.rowMajor (ix3 b R c), ?_, ?_⟩
    · rw [Equiv.symm_apply_apply]; exact hd b R c
    · rw [Equiv.symm_apply_apply]; rfl

variable (hv : ∀ c, n (ix3 b R c) = ((v c : ℝ) : EReal)) (hc : Vote.IsMode v c₀)
include hv hc

/-- The class that the reference picks is the first of most votes. -/
theorem argmax_apply : argmaxOf n (ix2 b R) = BitVec.ofNat 32 c₀.val := by
  have h₀ := c₀.isLt
  unfold argmaxOf
  rw [Ideal.argReduce_eq_reduce2, Host.reduce2_eq_foldl_fiber]
  refine congrArg Prod.snd (foldl_eq _ (Weak (n (ix3 b R c₀), BitVec.ofNat 32 c₀.val)) (n (ix3 b R c₀), BitVec.ofNat 32 c₀.val)
    reducer_or (reducer_left _) (reducer_right _) _ (fun p hp => ?_) ((mem_fiber n b R _).mpr ⟨c₀, rfl⟩) _ ?_)
  · obtain ⟨c, rfl⟩ := (mem_fiber n b R p).mp hp
    have hcl := c.isLt
    unfold Weak
    rw [hv, hv, EReal.coe_lt_coe_iff, EReal.coe_eq_coe_iff, Nat.cast_lt, Nat.cast_inj, Read.toInt_ofNat (by omega), Read.toInt_ofNat (by omega)]
    rcases lt_or_eq_of_le (hc.1 c) with h | h
    · exact Or.inl h
    · exact Or.inr ⟨h, Int.ofNat_le.mpr (hc.2 c h)⟩
  · left
    show Ideal.ofBits .f32 0xFF800000#32 < n (ix3 b R c₀)
    rw [Read.ofBits_neg_inf, hv]
    exact EReal.bot_lt_coe _

/-- The share of that class. -/
theorem shares_apply : shares n (ix2 b R) = (((v c₀ : ℝ) * (1 / 5) : ℝ) : EReal) := by
  have hl : ∀ c : Fin 32, (by decide : S16x256x32.Reduces [2] S16x256).lift (ix2 b R) c = ix3 b R c := by
    intro c
    funext a; match a with
    | ⟨0, _⟩ => rfl
    | ⟨1, _⟩ => rfl
    | ⟨2, _⟩ => rfl
  have hm : Host.reduce FloatOps.maximumf n (constant S_ .f32 0xFF800000#32) reducesTo_S16x256x32_S16x256_d2 h_S_ (ix2 b R) = ((v c₀ : ℝ) : EReal) := by
    refine (Read.hostMax_single n _ reducesTo_S16x256x32_S16x256_d2 (by decide : S16x256x32.Reduces [2] S16x256) h_S_ (ix2 b R) c₀ Read.ofBits_neg_inf fun c => ?_).trans
      ((congrArg n (hl c₀)).trans (hv c₀))
    refine le_of_eq_of_le ((congrArg n (hl c)).trans (hv c)) (le_of_le_of_eq ?_ ((congrArg n (hl c₀)).trans (hv c₀)).symm)
    exact EReal.coe_le_coe_iff.mpr (Nat.cast_le.mpr (hc.1 c))
  unfold shares
  generalize Host.reduce FloatOps.maximumf n (constant S_ .f32 0xFF800000#32) reducesTo_S16x256x32_S16x256_d2 h_S_ = f at hm ⊢
  show Ideal.div (f (ix2 b R)) (Ideal.ofBits .f32 0x40A00000#32) = _
  rw [hm, Read.ofBits_five, Ideal.div_coe (by norm_num), EReal.coe_mul]

end row

section results
variable (x0 : Spec.Slots) (x1 : Spec.Encs) (x2 : Spec.Ids) (h : Spec.Ok x0 x1 x2)
include h

/-- The reference's first result is the first class of most votes of every query. -/
theorem codes_eq : codes (counts (F := Ideal) x0 x1 x2) = Spec.laid (Spec.code x0 x1 x2) := by
  unfold codes
  refine Spec.laid_eq _ _ (fun b R => ?_) _ _
  refine (congrArg (fun w : BitVec 32 => (FloatOps.sitofp .f32 w : Ideal .f32)) (argmax_apply (counts (F := Ideal) x0 x1 x2) b R (Spec.votes x0 x1 x2 b R)
    (Spec.mode x0 x1 x2 b R) (Counts.counts_apply h b R) (Spec.mode_isMode x0 x1 x2 b R))).trans ?_
  show (((BitVec.ofNat 32 (Spec.mode x0 x1 x2 b R).val).toInt : ℝ) : EReal) = (((Spec.mode x0 x1 x2 b R).val : ℝ) : EReal)
  rw [Read.toInt_ofNat (by have := (Spec.mode x0 x1 x2 b R).isLt; omega)]
  norm_cast

/-- The reference's second result is a fifth of the votes of that class. -/
theorem probs_eq : probs (counts (F := Ideal) x0 x1 x2) = Spec.laid (Spec.share x0 x1 x2) := by
  unfold probs
  exact Spec.laid_eq _ _ (fun b R => shares_apply (counts (F := Ideal) x0 x1 x2) b R (Spec.votes x0 x1 x2 b R)
    (Spec.mode x0 x1 x2 b R) (Counts.counts_apply h b R) (Spec.mode_isMode x0 x1 x2 b R)) _ _

end results

end Cert.ReferenceIdeal.Result

end
-- ==== Proof.Precondition.lean ====
/- What the precondition says of the arguments. -/
module

public import proofs.«01_k».proof.Pre_finite_and_in_vocabulary
public import proofs.«01_k».proof.Proof.Spec
public import proofs.«01_k».proof.Proof.Read

@[expose] public section

noncomputable section

namespace Cert.Precondition

open Idealize.ShloMosaic.ValueIdx Idealize.ShloMosaic

/-- The side conditions of the precondition's operations hold. -/
instance facts : Cert.Pre_finite_and_in_vocabulary.Facts where
  bcast_S_S32x8x2048 := by decide
  bcast_S_S16x10000x128 := by decide
  bcast_S_S16x10000 := by decide

/-- What is less than infinity in absolute value is a real number. -/
theorem real_of_abs (x : EReal) (h : Ideal.cmp .olt (max x (-x)) (Ideal.ofBits .f32 0x7F800000#32) = 1#1) : x = ((x.toReal : ℝ) : EReal) := by
  have e : Ideal.ofBits .f32 0x7F800000#32 = (⊤ : EReal) := by simp [Ideal.ofBits, Ideal.ieee]
  rw [e] at h
  have h' : max x (-x) < ⊤ := by
    by_contra hn
    simp [Ideal.cmp, hn] at h
  refine (EReal.coe_toReal (ne_of_lt (lt_of_le_of_lt (le_max_left _ _) h')) fun hb => ?_).symm
  rw [hb] at h'
  simp at h'

/-- A word that is at least zero and less than 32, its sign counted, is less than 32. -/
theorem lt_of_signed (w : BitVec 32) (h : IntOp.andi (IntOp.cmpi .sge w 0#32) (IntOp.cmpi .slt w 32#32) = 1#1) : w.toNat < 32 := by
  by_cases h1 : (0#32 : BitVec 32).sle w
  · by_cases h2 : w.slt 32#32
    · rw [BitVec.sle_iff_toInt_le] at h1
      rw [BitVec.slt_iff_toInt_lt] at h2
      have e0 : (0#32 : BitVec 32).toInt = 0 := by decide
      have e32 : (32#32 : BitVec 32).toInt = 32 := by decide
      rw [e0] at h1
      rw [e32] at h2
      rw [BitVec.toInt_eq_toNat_cond] at h1 h2
      have := w.isLt
      split at h1 <;> omega
    · simp [IntOp.cmpi, IntOp.andi, h2] at h
  · simp [IntOp.cmpi, IntOp.andi, h1] at h

/-- Arguments that meet the precondition are real numbers, and classes below 32. -/
theorem ok (x0 : Spec.Slots) (x1 : Spec.Encs) (x2 : Spec.Ids)
    (h0 : (Pre_finite_and_in_vocabulary.fn (F := Ideal) x0 x1 x2).1 = fun _ => 1#1)
    (h1 : (Pre_finite_and_in_vocabulary.fn (F := Ideal) x0 x1 x2).2.1 = fun _ => 1#1)
    (h2 : (Pre_finite_and_in_vocabulary.fn (F := Ideal) x0 x1 x2).2.2 = fun _ => 1#1) : Spec.Ok x0 x1 x2 :=
  ⟨fun b R e => real_of_abs _ (congrFun h0 (Spec.place b R e)), fun b k e => real_of_abs _ (congrFun h1 (ix3 b k e)),
    fun b k => lt_of_signed _ (congrFun h2 (ix2 b k))⟩

end Cert.Precondition

end
-- ==== Proof.lean ====
/- The certificate: the three frames, the named constant, and the equation of the results. -/
module

public import proofs.«01_k».proof.Defs
public import proofs.«01_k».proof.Proof.Kernel.Run
public import proofs.«01_k».proof.Proof.KernelIdeal.Run
public import proofs.«01_k».proof.Proof.KernelIdeal.Result
public import proofs.«01_k».proof.Proof.ReferenceIdeal.Run
public import proofs.«01_k».proof.Proof.ReferenceIdeal.Result
public import proofs.«01_k».proof.Proof.Precondition

@[expose] public section

noncomputable section

namespace Cert.Proof

open Idealize.ShloMosaic Idealize.ShloMosaic.TcCoe Idealize.SL.Sem

/-- The reference leaves its arguments as they were and every counter at zero: it declares no semaphore. -/
theorem reference_frame (m : (ℓ : Loc ReferenceIdeal.nD ReferenceIdeal.τ ReferenceIdeal.sig) → Buf (Elt Ideal) ℓ) (g : Dev ReferenceIdeal.nD → PrngReg) :
    θ_run (ReferenceIdeal.defs (F := Ideal)) (onTc (τ := ReferenceIdeal.τ) (ReferenceIdeal.main (F := Ideal))) ⟨m, fun _ => 0, g⟩ (fun r => (∀ c : Dev ReferenceIdeal.nD,
      r.2.mem ((c.tc : Thread ReferenceIdeal.nD ReferenceIdeal.τ).loc ReferenceIdeal.main_arg0) = m ((c.tc : Thread ReferenceIdeal.nD ReferenceIdeal.τ).loc ReferenceIdeal.main_arg0)
      ∧ r.2.mem ((c.tc : Thread ReferenceIdeal.nD ReferenceIdeal.τ).loc ReferenceIdeal.main_arg1) = m ((c.tc : Thread ReferenceIdeal.nD ReferenceIdeal.τ).loc ReferenceIdeal.main_arg1)
      ∧ r.2.mem ((c.tc : Thread ReferenceIdeal.nD ReferenceIdeal.τ).loc ReferenceIdeal.main_arg2) = m ((c.tc : Thread ReferenceIdeal.nD ReferenceIdeal.τ).loc ReferenceIdeal.main_arg2))
      ∧ r.2.sem = fun _ => 0) :=
  (θ_run _ _ _).mono (fun _ h => ⟨fun c => (h c).2.2, funext fun x => by
    rcases x with ⟨⟨d, p⟩, s⟩
    cases p <;> cases s <;> rename_i k <;> exact k.elim0⟩) (ReferenceIdeal.Run.run m g)

/-- On arguments that meet the precondition the kernel and the reference return the same two arrays: the first class of
    most votes of every query, and its share of the five. -/
theorem algebraic : Cert.algebraic_KernelIdeal_ReferenceIdeal_pre_finite_and_in_vocabulary
    (hKernelIdeal := Cert.KernelIdeal.Gen.facts) (hReferenceIdeal := Cert.ReferenceIdeal.Gen.facts) (hPre_finite_and_in_vocabulary := Cert.Precondition.facts) := by
  intro m g m' g' hpre hargs
  have hok : ∀ c, Spec.Ok (KernelIdeal.Host.slots m c) (KernelIdeal.Host.encs m c) (KernelIdeal.Host.ids m c) := fun c =>
    Precondition.ok _ _ _ (hpre c).1 (hpre c).2.1 (hpre c).2.2
  refine ⟨fun c => Spec.laid (Spec.code (KernelIdeal.Host.slots m c) (KernelIdeal.Host.encs m c) (KernelIdeal.Host.ids m c)),
    fun c => Spec.laid (Spec.share (KernelIdeal.Host.slots m c) (KernelIdeal.Host.encs m c) (KernelIdeal.Host.ids m c)),
    KernelIdeal.Result.run m g hok, (θ_run _ _ _).mono (fun r hr c => ?_) (ReferenceIdeal.Run.run m' g')⟩
  obtain ⟨a0, a1, a2⟩ := hargs c
  refine ⟨(hr c).1.trans ?_, (hr c).2.1.trans ?_, (hr c).2.2⟩
  · rw [a0, a1, a2]
    exact ReferenceIdeal.Result.codes_eq _ _ _ (hok c)
  · rw [a0, a1, a2]
    exact ReferenceIdeal.Result.probs_eq _ _ _ (hok c)

/-- Everything that is claimed. -/
theorem claim : Cert.Claim := ⟨Cert.Kernel.Gen.facts, Cert.KernelIdeal.Gen.facts, Cert.ReferenceIdeal.Gen.facts, Cert.Precondition.facts,
  fun m g _ => Kernel.Run.frame m g, fun m g _ => KernelIdeal.Run.frame m g, fun m g _ => KernelIdeal.Run.frame m g,
  fun m g _ => reference_frame m g, fun m g _ => reference_frame m g,
  IdealRules.named_const.statement _ "fifth" .f32 0x3E4CCCCD#32 _ rfl,
  algebraic⟩

end Cert.Proof

end
